-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x168x2048 : Shape := ⟨3, ![4, 168, 2048]⟩
abbrev S4x168x4 : Shape := ⟨3, ![4, 168, 4]⟩
abbrev S2048x32 : Shape := ⟨2, ![2048, 32]⟩
abbrev S200x64 : Shape := ⟨2, ![200, 64]⟩
abbrev S64 : Shape := ⟨1, ![64]⟩
abbrev S64x64 : Shape := ⟨2, ![64, 64]⟩
abbrev S168x32 : Shape := ⟨2, ![168, 32]⟩
abbrev S192x2084 : Shape := ⟨2, ![192, 2084]⟩
abbrev S192x64 : Shape := ⟨2, ![192, 64]⟩
abbrev S192 : Shape := ⟨1, ![192]⟩
abbrev S168x64 : Shape := ⟨2, ![168, 64]⟩
abbrev S32x64 : Shape := ⟨2, ![32, 64]⟩
abbrev S2084x192 : Shape := ⟨2, ![2084, 192]⟩
abbrev S64x192 : Shape := ⟨2, ![64, 192]⟩
abbrev S2048x64 : Shape := ⟨2, ![2048, 64]⟩
abbrev S4x64 : Shape := ⟨2, ![4, 64]⟩
abbrev S_ : Shape := ⟨0, ![]⟩
abbrev S168x1 : Shape := ⟨2, ![168, 1]⟩
abbrev S168x33 : Shape := ⟨2, ![168, 33]⟩
abbrev S1x64 : Shape := ⟨2, ![1, 64]⟩
abbrev S33x64 : Shape := ⟨2, ![33, 64]⟩
abbrev S4x2216x64 : Shape := ⟨3, ![4, 2216, 64]⟩
abbrev S1x2304x64 : Shape := ⟨3, ![1, 2304, 64]⟩
abbrev S9216x65 : Shape := ⟨2, ![9216, 65]⟩
abbrev S2304x65 : Shape := ⟨2, ![2304, 65]⟩
abbrev S2304x2304 : Shape := ⟨2, ![2304, 2304]⟩
abbrev S672x64 : Shape := ⟨2, ![672, 64]⟩
abbrev S2304x1 : Shape := ⟨2, ![2304, 1]⟩
abbrev S1x168x2048 : Shape := ⟨3, ![1, 168, 2048]⟩
abbrev S168x2048 : Shape := ⟨2, ![168, 2048]⟩
abbrev S88x64 : Shape := ⟨2, ![88, 64]⟩
abbrev S1x168x4 : Shape := ⟨3, ![1, 168, 4]⟩
abbrev S168x4 : Shape := ⟨2, ![168, 4]⟩
abbrev S2304x64 : Shape := ⟨2, ![2304, 64]⟩

abbrev nBuf : Space → Nat
  | .hbm => 55
  | .vmem => 44
  | .smem => 0
  | _ => 0

abbrev bufTy : (tb : Table) → Fin (tcTables nBuf tb) → BufTy
  | .hbm, ⟨0, _⟩ => ⟨S4x168x2048, .f32⟩
  | .hbm, ⟨1, _⟩ => ⟨S4x168x4, .f32⟩
  | .hbm, ⟨2, _⟩ => ⟨S2048x32, .f32⟩
  | .hbm, ⟨3, _⟩ => ⟨S200x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S168x32, .f32⟩
  | .hbm, ⟨8, _⟩ => ⟨S192x2084, .f32⟩
  | .hbm, ⟨9, _⟩ => ⟨S192x64, .f32⟩
  | .hbm, ⟨10, _⟩ => ⟨S192, .f32⟩
  | .hbm, ⟨11, _⟩ => ⟨S192, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S168x64, .f32⟩
  | .hbm, ⟨17, _⟩ => ⟨S32x64, .f32⟩
  | .hbm, ⟨18, _⟩ => ⟨S2084x192, .f32⟩
  | .hbm, ⟨19, _⟩ => ⟨S64x192, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S168x1, .f32⟩
  | .hbm, ⟨34, _⟩ => ⟨S168x33, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S33x64, .f32⟩
  | .hbm, ⟨44, _⟩ => ⟨S64, .f32⟩
  | .hbm, ⟨45, _⟩ => ⟨S1x64, .f32⟩
  | .hbm, ⟨46, _⟩ => ⟨S33x64, .f32⟩
  | .hbm, ⟨47, _⟩ => ⟨S1x64, .f32⟩
  | .hbm, ⟨48, _⟩ => ⟨S33x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S4x2216x64, .f32⟩
  | .local _ .vmem, ⟨0, _⟩ => ⟨S4x168x2048, .f32⟩
  | .local _ .vmem, ⟨1, _⟩ => ⟨S4x168x4, .f32⟩
  | .local _ .vmem, ⟨2, _⟩ => ⟨S2048x32, .f32⟩
  | .local _ .vmem, ⟨3, _⟩ => ⟨S168x64, .f32⟩
  | .local _ .vmem, ⟨4, _⟩ => ⟨S32x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S168x33, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S4x64, .f32⟩
  | .local _ .vmem, ⟨13, _⟩ => ⟨S4x64, .f32⟩
  | .local _ .vmem, ⟨14, _⟩ => ⟨S4x64, .f32⟩
  | .local _ .vmem, ⟨15, _⟩ => ⟨S33x64, .f32⟩
  | .local _ .vmem, ⟨16, _⟩ => ⟨S33x64, .f32⟩
  | .local _ .vmem, ⟨17, _⟩ => ⟨S33x64, .f32⟩
  | .local _ .vmem, ⟨18, _⟩ => ⟨S64x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S1x2304x64, .f32⟩
  | .local _ .vmem, ⟨27, _⟩ => ⟨S1x2304x64, .f32⟩
  | .local _ .vmem, ⟨28, _⟩ => ⟨S9216x65, .bf16⟩
  | .local _ .vmem, ⟨29, _⟩ => ⟨S2304x65, .bf16⟩
  | .local _ .vmem, ⟨30, _⟩ => ⟨S2304x2304, .bf16⟩
  | .local _ .vmem, ⟨31, _⟩ => ⟨S672x64, .f32⟩
  | .local _ .vmem, ⟨32, _⟩ => ⟨S168x64, .f32⟩
  | .local _ .vmem, ⟨33, _⟩ => ⟨S168x64, .f32⟩
  | .local _ .vmem, ⟨34, _⟩ => ⟨S168x64, .f32⟩
  | .local _ .vmem, ⟨35, _⟩ => ⟨S168x64, .f32⟩
  | .local _ .vmem, ⟨36, _⟩ => ⟨S168x64, .f32⟩
  | .local _ .vmem, ⟨37, _⟩ => ⟨S168x64, .f32⟩
  | .local _ .vmem, ⟨38, _⟩ => ⟨S168x64, .f32⟩
  | .local _ .vmem, ⟨39, _⟩ => ⟨S168x64, .f32⟩
  | .local _ .vmem, ⟨40, _⟩ => ⟨S168x64, .f32⟩
  | .local _ .vmem, ⟨41, _⟩ => ⟨S168x64, .f32⟩
  | .local _ .vmem, ⟨42, _⟩ => ⟨S168x64, .f32⟩
  | .local _ .vmem, ⟨43, _⟩ => ⟨S168x64, .f32⟩
  | _, _ => ⟨S4x168x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg26_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_scratch11 : Ref sig .tc := ⟨.vmem, 39, rfl⟩
abbrev cc0_scratch12 : Ref sig .tc := ⟨.vmem, 40, rfl⟩
abbrev cc0_scratch13 : Ref sig .tc := ⟨.vmem, 41, rfl⟩
abbrev cc0_scratch14 : Ref sig .tc := ⟨.vmem, 42, rfl⟩
abbrev cc0_scratch15 : Ref sig .tc := ⟨.vmem, 43, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem26_1 : DmaSem sig := 27

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_264 : BitVec 32 := 0#32
  let c168_i32 : BitVec 32 := 168#32
  let v339 : BitVec 32 := Scalar.addi c0_i32_264 c168_i32
  let c1_i32_265 : BitVec 32 := 1#32
  ⟨c0_i32_264, v339, c1_i32_265⟩
def k0_off1 (k0_t1 : Fin k0_t1_loop.trips) : Fin 2 → Nat :=
  let c0_i32_264 : BitVec 32 := 0#32
  let c1_i32_265 : BitVec 32 := 1#32
  let arg45 : BitVec 32 := Scf.iv c0_i32_264 c1_i32_265 k0_t1
  let v361 : Index := Scalar.indexCast arg45
  let c0_276 : Index := 0#32
  ![v361.toNat, 0]
def k0_off2 (k0_t1 : Fin k0_t1_loop.trips) (c0_i32_297 : BitVec 32) : Fin 2 → Nat :=
  let c0_i32_264 : BitVec 32 := 0#32
  let c1_i32_265 : BitVec 32 := 1#32
  let arg45 : BitVec 32 := Scf.iv c0_i32_264 c1_i32_265 k0_t1
  let v416 : BitVec 32 := Scalar.addi c0_i32_297 arg45
  let v417 : Index := Scalar.indexCast v416
  let c0_298 : Index := 0#32
  ![v417.toNat, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off3 (i : grid0.Coords) : Fin 2 → Nat :=
  let arg0 : BitVec 32 := BitVec.ofNat 32 (i 0).val
  let c2304_i32 : BitVec 32 := 2304#32
  let v11 : BitVec 32 := Scalar.muli arg0 c2304_i32
  let v12 : Index := Scalar.indexCast v11
  let c0 : Index := 0#32
  ![v12.toNat, 0]
def k0_off4 (i : grid0.Coords) : Fin 2 → Nat :=
  let arg0 : BitVec 32 := BitVec.ofNat 32 (i 0).val
  let c2304_i32_8 : BitVec 32 := 2304#32
  let v22 : BitVec 32 := Scalar.muli arg0 c2304_i32_8
  let v23 : Index := Scalar.indexCast v22
  let c0_9 : Index := 0#32
  ![v23.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x168x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x168x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S168x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S168x33 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S33x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S33x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S33x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S64x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S64x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 2 → Memref sig .tc .vmem S1x2304x64 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]
-- ==== ReferenceIdeal.lean ====
abbrev S4x168x2048 : Shape := ⟨3, ![4, 168, 2048]⟩
abbrev S4x168x4 : Shape := ⟨3, ![4, 168, 4]⟩
abbrev S2048x32 : Shape := ⟨2, ![2048, 32]⟩
abbrev S200x64 : Shape := ⟨2, ![200, 64]⟩
abbrev S64 : Shape := ⟨1, ![64]⟩
abbrev S64x64 : Shape := ⟨2, ![64, 64]⟩
abbrev S168x32 : Shape := ⟨2, ![168, 32]⟩
abbrev S192x2084 : Shape := ⟨2, ![192, 2084]⟩
abbrev S192x64 : Shape := ⟨2, ![192, 64]⟩
abbrev S192 : Shape := ⟨1, ![192]⟩
abbrev S4x2048x168 : Shape := ⟨3, ![4, 2048, 168]⟩
abbrev S1x2048x32 : Shape := ⟨3, ![1, 2048, 32]⟩
abbrev S4x2048x32 : Shape := ⟨3, ![4, 2048, 32]⟩
abbrev S4x2048x200 : Shape := ⟨3, ![4, 2048, 200]⟩
abbrev S4x2048x64 : Shape := ⟨3, ![4, 2048, 64]⟩
abbrev S1x1x64 : Shape := ⟨3, ![1, 1, 64]⟩
abbrev S_ : Shape := ⟨0, ![]⟩
abbrev S1x168x32 : Shape := ⟨3, ![1, 168, 32]⟩
abbrev S4x168x32 : Shape := ⟨3, ![4, 168, 32]⟩
abbrev S4x168x2084 : Shape := ⟨3, ![4, 168, 2084]⟩
abbrev S4x64 : Shape := ⟨2, ![4, 64]⟩
abbrev S168x4x2084 : Shape := ⟨3, ![168, 4, 2084]⟩
abbrev S168x4x64 : Shape := ⟨3, ![168, 4, 64]⟩
abbrev S1x4x2084 : Shape := ⟨3, ![1, 4, 2084]⟩
abbrev S4x2084 : Shape := ⟨2, ![4, 2084]⟩
abbrev S2084x192 : Shape := ⟨2, ![2084, 192]⟩
abbrev S4x192 : Shape := ⟨2, ![4, 192]⟩
abbrev S1x192 : Shape := ⟨2, ![1, 192]⟩
abbrev S64x192 : Shape := ⟨2, ![64, 192]⟩
abbrev S1x4x64 : Shape := ⟨3, ![1, 4, 64]⟩
abbrev S4x168x64 : Shape := ⟨3, ![4, 168, 64]⟩
abbrev S4x2216x64 : Shape := ⟨3, ![4, 2216, 64]⟩
abbrev S4x2216x2216 : Shape := ⟨3, ![4, 2216, 2216]⟩
abbrev S4x2216 : Shape := ⟨2, ![4, 2216]⟩
abbrev S4x2216x1 : Shape := ⟨3, ![4, 2216, 1]⟩

abbrev nBuf : Space → Nat
  | .hbm => 135
  | .vmem => 0
  | .smem => 0
  | _ => 0

abbrev hbmTy0_0 (i : Nat) : BufTy := match i % 128 with
  | 0 => ⟨S4x168x2048, .f32⟩
  | 1 => ⟨S4x168x4, .f32⟩
  | 2 => ⟨S2048x32, .f32⟩
  | 3 => ⟨S200x64, .f32⟩
  | 4 => ⟨S64, .f32⟩
  | 5 => ⟨S64x64, .f32⟩
  | 6 => ⟨S64, .f32⟩
  | 7 => ⟨S168x32, .f32⟩
  | 8 => ⟨S192x2084, .f32⟩
  | 9 => ⟨S192x64, .f32⟩
  | 10 => ⟨S192, .f32⟩
  | 11 => ⟨S192, .f32⟩
  | 12 => ⟨S64x64, .f32⟩
  | 13 => ⟨S64, .f32⟩
  | 14 => ⟨S64x64, .f32⟩
  | 15 => ⟨S64, .f32⟩
  | 16 => ⟨S4x2048x168, .f32⟩
  | 17 => ⟨S1x2048x32, .f32⟩
  | 18 => ⟨S4x2048x32, .f32⟩
  | 19 => ⟨S4x2048x200, .f32⟩
  | 20 => ⟨S4x2048x64, .f32⟩
  | 21 => ⟨S1x1x64, .f32⟩
  | 22 => ⟨S4x2048x64, .f32⟩
  | 23 => ⟨S4x2048x64, .f32⟩
  | 24 => ⟨S_, .f32⟩
  | 25 => ⟨S4x2048x64, .f32⟩
  | 26 => ⟨S4x2048x64, .i1⟩
  | 27 => ⟨S4x2048x64, .f32⟩
  | 28 => ⟨S4x2048x64, .f32⟩
  | 29 => ⟨S4x2048x64, .f32⟩
  | 30 => ⟨S1x1x64, .f32⟩
  | 31 => ⟨S4x2048x64, .f32⟩
  | 32 => ⟨S4x2048x64, .f32⟩
  | 33 => ⟨S1x168x32, .f32⟩
  | 34 => ⟨S4x168x32, .f32⟩
  | 35 => ⟨S4x168x2084, .f32⟩
  | 36 => ⟨S_, .f32⟩
  | 37 => ⟨S4x64, .f32⟩
  | 38 => ⟨S168x4x2084, .f32⟩
  | 39 => ⟨S_, .f32⟩
  | 40 => ⟨S168x4x64, .f32⟩
  | 41 => ⟨S_, .i32⟩
  | 42 => ⟨S168x4x2084, .f32⟩
  | 43 => ⟨S192x2084, .f32⟩
  | 44 => ⟨S192, .f32⟩
  | 45 => ⟨S192x64, .f32⟩
  | 46 => ⟨S192, .f32⟩
  | 47 => ⟨S_, .i32⟩
  | 48 => ⟨S4x64, .f32⟩
  | 49 => ⟨S168x4x64, .f32⟩
  | 50 => ⟨S_, .i32⟩
  | 51 => ⟨S_, .i1⟩
  | 52 => ⟨S_, .i32⟩
  | 53 => ⟨S_, .i32⟩
  | 54 => ⟨S1x4x2084, .f32⟩
  | 55 => ⟨S4x2084, .f32⟩
  | 56 => ⟨S2084x192, .f32⟩
  | 57 => ⟨S4x192, .f32⟩
  | 58 => ⟨S1x192, .f32⟩
  | 59 => ⟨S4x192, .f32⟩
  | 60 => ⟨S4x192, .f32⟩
  | 61 => ⟨S64x192, .f32⟩
  | 62 => ⟨S4x192, .f32⟩
  | 63 => ⟨S1x192, .f32⟩
  | 64 => ⟨S4x192, .f32⟩
  | 65 => ⟨S4x192, .f32⟩
  | 66 => ⟨S4x64, .f32⟩
  | 67 => ⟨S4x64, .f32⟩
  | 68 => ⟨S4x64, .f32⟩
  | 69 => ⟨S4x64, .f32⟩
  | 70 => ⟨S4x64, .f32⟩
  | 71 => ⟨S4x64, .f32⟩
  | 72 => ⟨S4x64, .f32⟩
  | 73 => ⟨S4x64, .f32⟩
  | 74 => ⟨S4x64, .f32⟩
  | 75 => ⟨S_, .f32⟩
  | 76 => ⟨S4x64, .f32⟩
  | 77 => ⟨S4x64, .f32⟩
  | 78 => ⟨S_, .f32⟩
  | 79 => ⟨S4x64, .f32⟩
  | 80 => ⟨S4x64, .f32⟩
  | 81 => ⟨S4x64, .f32⟩
  | 82 => ⟨S4x64, .f32⟩
  | 83 => ⟨S4x64, .f32⟩
  | 84 => ⟨S_, .f32⟩
  | 85 => ⟨S4x64, .f32⟩
  | 86 => ⟨S4x64, .f32⟩
  | 87 => ⟨S_, .f32⟩
  | 88 => ⟨S4x64, .f32⟩
  | 89 => ⟨S4x64, .f32⟩
  | 90 => ⟨S4x64, .f32⟩
  | 91 => ⟨S4x64, .f32⟩
  | 92 => ⟨S4x64, .f32⟩
  | 93 => ⟨S_, .f32⟩
  | 94 => ⟨S4x64, .f32⟩
  | 95 => ⟨S4x64, .f32⟩
  | 96 => ⟨S4x64, .f32⟩
  | 97 => ⟨S4x64, .f32⟩
  | 98 => ⟨S4x64, .f32⟩
  | 99 => ⟨S1x4x64, .f32⟩
  | 100 => ⟨S_, .i32⟩
  | 101 => ⟨S_, .i32⟩
  | 102 => ⟨S168x4x64, .f32⟩
  | 103 => ⟨S_, .i32⟩
  | 104 => ⟨S_, .i32⟩
  | 105 => ⟨S4x168x64, .f32⟩
  | 106 => ⟨S4x2216x64, .f32⟩
  | 107 => ⟨S4x2216x2216, .f32⟩
  | 108 => ⟨S_, .f32⟩
  | 109 => ⟨S4x2216x2216, .f32⟩
  | 110 => ⟨S4x2216x2216, .f32⟩
  | 111 => ⟨S4x2216x2216, .f32⟩
  | 112 => ⟨S_, .f32⟩
  | 113 => ⟨S4x2216, .f32⟩
  | 114 => ⟨S4x2216x1, .f32⟩
  | 115 => ⟨S_, .f32⟩
  | 116 => ⟨S4x2216x1, .f32⟩
  | 117 => ⟨S4x2216x1, .f32⟩
  | 118 => ⟨S4x2216x2216, .f32⟩
  | 119 => ⟨S4x2216x2216, .f32⟩
  | 120 => ⟨S4x2216x64, .f32⟩
  | 121 => ⟨S4x2216x64, .f32⟩
  | 122 => ⟨S1x1x64, .f32⟩
  | 123 => ⟨S4x2216x64, .f32⟩
  | 124 => ⟨S4x2216x64, .f32⟩
  | 125 => ⟨S_, .f32⟩
  | 126 => ⟨S4x2216x64, .f32⟩
  | 127 => ⟨S4x2216x64, .i1⟩
  | _ => ⟨S4x168x2048, .f32⟩

abbrev hbmTy0_1 (i : Nat) : BufTy := match i % 128 with
  | 0 => ⟨S4x2216x64, .f32⟩
  | 1 => ⟨S4x2216x64, .f32⟩
  | 2 => ⟨S4x2216x64, .f32⟩
  | 3 => ⟨S4x2216x64, .f32⟩
  | 4 => ⟨S1x1x64, .f32⟩
  | 5 => ⟨S4x2216x64, .f32⟩
  | 6 => ⟨S4x2216x64, .f32⟩
  | _ => ⟨S4x168x2048, .f32⟩

abbrev hbmTy (i : Nat) : BufTy := match i / 128 with
  | 0 => hbmTy0_0 i
  | 1 => hbmTy0_1 i
  | _ => ⟨S4x168x2048, .f32⟩

abbrev bufTy : (tb : Table) → Fin (tcTables nBuf tb) → BufTy
  | .hbm, ⟨i, _⟩ => hbmTy i
  | _, _ => ⟨S4x168x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_c : Ref sig .tc := ⟨.hbm, 41, rfl⟩
abbrev main_v22_0 : Ref sig .tc := ⟨.hbm, 42, rfl⟩
abbrev main_v22_1 : Ref sig .tc := ⟨.hbm, 43, rfl⟩
abbrev main_v22_2 : Ref sig .tc := ⟨.hbm, 44, rfl⟩
abbrev main_v22_3 : Ref sig .tc := ⟨.hbm, 45, rfl⟩
abbrev main_v22_4 : Ref sig .tc := ⟨.hbm, 46, rfl⟩
abbrev main_v22_5 : Ref sig .tc := ⟨.hbm, 47, rfl⟩
abbrev main_v22_6 : Ref sig .tc := ⟨.hbm, 48, rfl⟩
abbrev main_v22_7 : Ref sig .tc := ⟨.hbm, 49, rfl⟩
abbrev main_while0c_c_12 : Ref sig .tc := ⟨.hbm, 50, rfl⟩
abbrev main_while0c_v48 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_v0 : Ref sig .tc := ⟨.hbm, 54, rfl⟩
abbrev main_while0b_v48 : Ref sig .tc := ⟨.hbm, 55, rfl⟩
abbrev main_while0b_v49 : Ref sig .tc := ⟨.hbm, 56, rfl⟩
abbrev main_while0b_v50 : Ref sig .tc := ⟨.hbm, 57, rfl⟩
abbrev main_while0b_v51 : Ref sig .tc := ⟨.hbm, 58, rfl⟩
abbrev main_while0b_v52 : Ref sig .tc := ⟨.hbm, 59, rfl⟩
abbrev main_while0b_v53 : Ref sig .tc := ⟨.hbm, 60, rfl⟩
abbrev main_while0b_v54 : Ref sig .tc := ⟨.hbm, 61, rfl⟩
abbrev main_while0b_v55 : Ref sig .tc := ⟨.hbm, 62, rfl⟩
abbrev main_while0b_v56 : Ref sig .tc := ⟨.hbm, 63, rfl⟩
abbrev main_while0b_v57 : Ref sig .tc := ⟨.hbm, 64, rfl⟩
abbrev main_while0b_v58 : Ref sig .tc := ⟨.hbm, 65, rfl⟩
abbrev main_while0b_v59 : Ref sig .tc := ⟨.hbm, 66, rfl⟩
abbrev main_while0b_v60 : Ref sig .tc := ⟨.hbm, 67, rfl⟩
abbrev main_while0b_v61 : Ref sig .tc := ⟨.hbm, 68, rfl⟩
abbrev main_while0b_v62 : Ref sig .tc := ⟨.hbm, 69, rfl⟩
abbrev main_while0b_v63 : Ref sig .tc := ⟨.hbm, 70, rfl⟩
abbrev main_while0b_v64 : Ref sig .tc := ⟨.hbm, 71, rfl⟩
abbrev main_while0b_v65 : Ref sig .tc := ⟨.hbm, 72, rfl⟩
abbrev main_while0b_v66 : Ref sig .tc := ⟨.hbm, 73, rfl⟩
abbrev main_while0b_v67 : Ref sig .tc := ⟨.hbm, 74, rfl⟩
abbrev main_while0b_cst_12 : Ref sig .tc := ⟨.hbm, 75, rfl⟩
abbrev main_while0b_v68 : Ref sig .tc := ⟨.hbm, 76, rfl⟩
abbrev main_while0b_v69 : Ref sig .tc := ⟨.hbm, 77, rfl⟩
abbrev main_while0b_cst_13 : Ref sig .tc := ⟨.hbm, 78, rfl⟩
abbrev main_while0b_v70 : Ref sig .tc := ⟨.hbm, 79, rfl⟩
abbrev main_while0b_v71 : Ref sig .tc := ⟨.hbm, 80, rfl⟩
abbrev main_while0b_v72 : Ref sig .tc := ⟨.hbm, 81, rfl⟩
abbrev main_while0b_v73 : Ref sig .tc := ⟨.hbm, 82, rfl⟩
abbrev main_while0b_v74 : Ref sig .tc := ⟨.hbm, 83, rfl⟩
abbrev main_while0b_cst_14 : Ref sig .tc := ⟨.hbm, 84, rfl⟩
abbrev main_while0b_v75 : Ref sig .tc := ⟨.hbm, 85, rfl⟩
abbrev main_while0b_v76 : Ref sig .tc := ⟨.hbm, 86, rfl⟩
abbrev main_while0b_cst_15 : Ref sig .tc := ⟨.hbm, 87, rfl⟩
abbrev main_while0b_v77 : Ref sig .tc := ⟨.hbm, 88, rfl⟩
abbrev main_while0b_v78 : Ref sig .tc := ⟨.hbm, 89, rfl⟩
abbrev main_while0b_v79 : Ref sig .tc := ⟨.hbm, 90, rfl⟩
abbrev main_while0b_v80 : Ref sig .tc := ⟨.hbm, 91, rfl⟩
abbrev main_while0b_v81 : Ref sig .tc := ⟨.hbm, 92, rfl⟩
abbrev main_while0b_cst_16 : Ref sig .tc := ⟨.hbm, 93, rfl⟩
abbrev main_while0b_v82 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_v86 : Ref sig .tc := ⟨.hbm, 98, rfl⟩
abbrev main_while0b_call2_v0 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_v87 : Ref sig .tc := ⟨.hbm, 102, rfl⟩
abbrev main_while0b_c_17 : Ref sig .tc := ⟨.hbm, 103, rfl⟩
abbrev main_while0b_v88 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_call3_cst : Ref sig .tc := ⟨.hbm, 108, rfl⟩
abbrev main_call3_v0 : Ref sig .tc := ⟨.hbm, 109, rfl⟩
abbrev main_v26 : Ref sig .tc := ⟨.hbm, 110, rfl⟩
abbrev main_v27 : Ref sig .tc := ⟨.hbm, 111, rfl⟩
abbrev main_cst_2 : Ref sig .tc := ⟨.hbm, 112, rfl⟩
abbrev main_v28 : Ref sig .tc := ⟨.hbm, 113, rfl⟩
abbrev main_v29 : Ref sig .tc := ⟨.hbm, 114, rfl⟩
abbrev main_cst_3 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_cst_4 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩

abbrev nD : Nat := 1
abbrev τ : Topo := Topo.v7x

variable {F : FTy → Type} [FloatOps F]

abbrev main_while0_count : Scf.Loop 32 := ⟨0#32, 168#32, 1#32⟩
-- ==== Proof.K.RefRun.lean ====
module

public import proofs.«01_k».proof.Defs
public import proofs.«01_k».proof.Proof.Gen.ReferenceIdeal.Run
public import Idealize.ShloMosaic.Lib.Quiescent

/-! The run of the reference: it ends with every counter at zero, with its arguments unchanged, and with its result at
    what the operations after the loop make of the loop's last trip. -/

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The buffers written after the loop. -/
abbrev postW : List (Ref sig .tc) :=
  [main_v23, main_v24, main_v25, main_call3_cst, main_call3_v0, main_v26, main_v27, main_cst_2, main_v28, main_v29, main_cst_3,
   main_v30, main_v31, main_v32, main_v33, main_v34, main_v35, main_v36, main_v37, main_v38, main_cst_4, main_v39, main_v40, main_v41,
   main_v42, main_v43, main_v44, main_v45, main_v46, main_v47]

theorem post3_writes : (hostOps0_3 : List (HloOp τ sig (Elt F))).Forall fun op => op.writes ⊆ ([main_v23, main_v24, main_v25].map (Proc.devRef (τ := τ) .tc)).toFinset :=
  StableHlo.forall_writes_sub_of_map rfl
theorem post4_writes : (hostOps0_4 : List (HloOp τ sig (Elt F))).Forall fun op => op.writes ⊆ ([main_call3_cst, main_call3_v0, main_v26].map (Proc.devRef (τ := τ) .tc)).toFinset :=
  StableHlo.forall_writes_sub_of_map rfl
theorem post5_writes : (hostOps0_5 : List (HloOp τ sig (Elt F))).Forall fun op => op.writes ⊆ ([main_v27, main_cst_2, main_v28, main_v29, main_cst_3,
   main_v30, main_v31, main_v32, main_v33, main_v34, main_v35, main_v36, main_v37, main_v38, main_cst_4, main_v39, main_v40, main_v41].map (Proc.devRef (τ := τ) .tc)).toFinset :=
  StableHlo.forall_writes_sub_of_map rfl
theorem post6_writes : (hostOps0_6 : List (HloOp τ sig (Elt F))).Forall fun op => op.writes ⊆ ([main_v42].map (Proc.devRef (τ := τ) .tc)).toFinset :=
  StableHlo.forall_writes_sub_of_map rfl
theorem post7_writes : (hostOps0_7 : List (HloOp τ sig (Elt F))).Forall fun op => op.writes ⊆ ([main_v43, main_v44, main_v45, main_v46, main_v47].map (Proc.devRef (τ := τ) .tc)).toFinset :=
  StableHlo.forall_writes_sub_of_map rfl

/-- The buffers written before the loop, then by a trip. -/
abbrev preW : List (Ref sig .tc) := hostOps0_W ++ hostOps0_1_W ++ hostOps0_2_W
abbrev tripW : List (Ref sig .tc) := condOps_W ++ while0Ops0_W ++ while0Ops0_1_W ++ while0Ops0_2_W ++ while0Ops0_3_W

variable (m : (ℓ : Loc nD τ sig) → Buf (Elt F) ℓ) (ρ : Dev nD → PrngReg)

/-- A buffer no operation before the loop writes is at its launch contents at the loop's entry. -/
theorem entry_of_not_mem (c : Dev nD) {r : Ref sig .tc} (h : r ∉ preW) :
    entryContents preI m c (Proc.devRef .tc r) = m (c, Proc.devRef .tc r) := by
  simp only [preW, List.mem_append, not_or] at h
  simp only [entryContents, preI, afterL_cons, afterL_nil]
  rw [after_of_writes_sub _ _ hostOps0_2_writes h.2, after_of_writes_sub _ _ hostOps0_1_writes h.1.2,
    after_of_writes_sub _ _ hostOps0_writes h.1.1]

/-- A buffer no trip writes is at its entry contents before every trip. -/
theorem trip_of_not_mem (c : Dev nD) {r : Ref sig .tc} (h : r ∉ tripW) : ∀ k,
    atK m k c (Proc.devRef .tc r) = entryContents preI m c (Proc.devRef .tc r)
  | 0 => rfl
  | k + 1 => by
    have hk := trip_of_not_mem c h k
    simp only [tripW, List.mem_append, not_or] at h
    rw [show atK m (k + 1) c = afterL bodyI (after condOps (atK m k c)) from rfl]
    simp only [bodyI, afterL_cons, afterL_nil]
    rw [after_of_writes_sub _ _ while0Ops0_3_writes h.2, after_of_writes_sub _ _ while0Ops0_2_writes h.1.2,
      after_of_writes_sub _ _ while0Ops0_1_writes h.1.1.2, after_of_writes_sub _ _ while0Ops0_writes h.1.1.1.2,
      after_of_writes_sub _ _ condOps_writes h.1.1.1.1]
    exact hk

/-- A buffer no operation after the loop writes is as the loop left it. -/
theorem post_of_not_mem (V : Valuation τ sig (Elt F)) {r : Ref sig .tc} (h : r ∉ postW) :
    afterL postI V (Proc.devRef .tc r) = V (Proc.devRef .tc r) := by
  simp only [postI, afterL_cons, afterL_nil]
  rw [after_of_writes_sub _ _ post7_writes (fun hm => h (by simp only [List.mem_cons, List.not_mem_nil, or_false] at hm ⊢; tauto)),
    after_of_writes_sub _ _ post6_writes (fun hm => h (by simp only [List.mem_cons, List.not_mem_nil, or_false] at hm ⊢; tauto)),
    after_of_writes_sub _ _ post5_writes (fun hm => h (by simp only [List.mem_cons, List.not_mem_nil, or_false] at hm ⊢; tauto)),
    after_of_writes_sub _ _ post4_writes (fun hm => h (by simp only [List.mem_cons, List.not_mem_nil, or_false] at hm ⊢; tauto)),
    after_of_writes_sub _ _ post3_writes (fun hm => h (by simp only [List.mem_cons, List.not_mem_nil, or_false] at hm ⊢; tauto))]

/-- A buffer nothing writes is unchanged at the end. -/
theorem final_of_not_mem (c : Dev nD) {r : Ref sig .tc} (h0 : r ∉ preW) (h1 : r ∉ tripW) (h2 : r ∉ postW) :
    finalContents condOps preI bodyI postI 168 m c (Proc.devRef .tc r) = m (c, Proc.devRef .tc r) := by
  have h1' : r ∉ condOps_W := fun hm => h1 (by simp only [tripW, List.mem_append]; tauto)
  rw [finalContents, post_of_not_mem _ h2, after_of_writes_sub _ _ condOps_writes h1']
  exact (trip_of_not_mem m c h1 168).trans (entry_of_not_mem m c h0)

/-- No semaphore is declared, so every counter is at zero. -/
theorem counters (s : MemSt nD τ sig (Elt F)) : s.sem = fun _ => 0 := sem_eq_zero_of_no_sems (by decide) s

end Cert.ReferenceIdeal.Hand

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL.Sem

/-- The reference ends with its arguments unchanged and every counter at zero. -/
theorem frame : Cert.quiescent_ReferenceIdeal := fun m g _ =>
  (θ_run _ _ _).mono (fun r h => ⟨fun c =>
    ⟨(h c main_arg0 rfl).trans (final_of_not_mem m c (by decide) (by decide) (by decide)),
     (h c main_arg1 rfl).trans (final_of_not_mem m c (by decide) (by decide) (by decide)),
     (h c main_arg2 rfl).trans (final_of_not_mem m c (by decide) (by decide) (by decide)),
     (h c main_arg3 rfl).trans (final_of_not_mem m c (by decide) (by decide) (by decide)),
     (h c main_arg4 rfl).trans (final_of_not_mem m c (by decide) (by decide) (by decide)),
     (h c main_arg5 rfl).trans (final_of_not_mem m c (by decide) (by decide) (by decide)),
     (h c main_arg6 rfl).trans (final_of_not_mem m c (by decide) (by decide) (by decide)),
     (h c main_arg7 rfl).trans (final_of_not_mem m c (by decide) (by decide) (by decide)),
     (h c main_arg8 rfl).trans (final_of_not_mem m c (by decide) (by decide) (by decide)),
     (h c main_arg9 rfl).trans (final_of_not_mem m c (by decide) (by decide) (by decide)),
     (h c main_arg10 rfl).trans (final_of_not_mem m c (by decide) (by decide) (by decide)),
     (h c main_arg11 rfl).trans (final_of_not_mem m c (by decide) (by decide) (by decide)),
     (h c main_arg12 rfl).trans (final_of_not_mem m c (by decide) (by decide) (by decide)),
     (h c main_arg13 rfl).trans (final_of_not_mem m c (by decide) (by decide) (by decide)),
     (h c main_arg14 rfl).trans (final_of_not_mem m c (by decide) (by decide) (by decide)),
     (h c main_arg15 rfl).trans (final_of_not_mem m c (by decide) (by decide) (by decide))⟩, counters _⟩) (run_fold m g)

end Cert.ReferenceIdeal.Hand

end
-- ==== Proof.K.Names.lean ====
module

public import proofs.«01_k».proof.Proof.Gen.KernelIdeal.Frame
public import proofs.«01_k».proof.Proof.Gen.KernelIdeal.Skeleton
public import Idealize.ShloMosaic.Lib.ValueIdx
public import Idealize.ShloMosaic.Lib.VecWindow
public import Idealize.ShloMosaic.Lib.WritesUnit
public import Idealize.ShloMosaic.Lib.Pipeline.Value

/-! Names for what the kernel's buffers hold: a batch's rows of the feature buffer, the augmented first-layer rows,
    and the states of the recurrent scan. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Batch `b`'s 64 feature columns of the feature buffer. -/
def blk64 (X : Vec F S9216x65 .bf16) (b : Fin 4) : Vec F S2304x64 .bf16 :=
  fun y => X (ValueIdx.ix2 ⟨2304 * b.val + (y 0).val, by have h : (y 0).val < 2304 := (y 0).isLt; omega⟩
    ⟨(y 1).val, by have h : (y 1).val < 64 := (y 1).isLt; omega⟩)

/-- Batch `b`'s rows of the feature buffer, with the column of ones. -/
def blk65 (X : Vec F S9216x65 .bf16) (b : Fin 4) : Vec F S2304x65 .bf16 :=
  fun y => X (ValueIdx.ix2 ⟨2304 * b.val + (y 0).val, by have h : (y 0).val < 2304 := (y 0).isLt; omega⟩ (y 1))

/-- The first-layer rows with the column of ones behind them. -/
def aug (h : Vec F S2304x64 .bf16) : Vec F S2304x65 .bf16 :=
  fun y => if hy : (y 1).val < 64 then h (ValueIdx.ix2 (y 0) ⟨(y 1).val, hy⟩) else k0_pay3 (F := F) (ValueIdx.ix2 (y 0) 0)

/-- Row `t` of one gate's input rows (the last row beyond them). -/
def rowOf (G : Vec F S168x64 .f32) (t : ℕ) : Vec F S1x64 .f32 :=
  fun y => G (ValueIdx.ix2 ⟨min t 167, by omega⟩ (y 1))

/-- One step of the recurrent scan from the state `h`: `G` holds the twelve gate inputs (gate by gate, batch by
    batch), `wr`, `wz`, `wn` the recurrent weights and `bn` the bias of the new-gate's recurrent part. -/
def gruStep (G : Fin 12 → Vec F S168x64 .f32) (wr wz wn : Vec F S64x64 .f32) (bn : Vec F S1x64 .f32) (t : ℕ)
    (h : FVec F S4x64 .f32) : FVec F S4x64 .f32 :=
  k0_pay52 bn h (k0_pay6 (rowOf (G 8) t) (rowOf (G 9) t) (rowOf (G 10) t) (rowOf (G 11) t)) (k0_pay7 (k0_pay50 wn) h)
    (k0_pay8 (k0_pay48 wr) h (rowOf (G 0) t) (rowOf (G 1) t) (rowOf (G 2) t) (rowOf (G 3) t))
    (k0_pay9 (k0_pay49 wz) h (rowOf (G 4) t) (rowOf (G 5) t) (rowOf (G 6) t) (rowOf (G 7) t)) k0_pay10

/-- The state of the scan after `t` steps. -/
def hst (G : Fin 12 → Vec F S168x64 .f32) (wr wz wn : Vec F S64x64 .f32) (bn : Vec F S1x64 .f32) : ℕ → FVec F S4x64 .f32
  | 0 => k0_pay51
  | t + 1 => gruStep G wr wz wn bn t (hst G wr wz wn bn t)

/-- What the scan has left of the hidden rows after `k` steps: row `168 b + t` is batch `b`'s state after step `t`. -/
def Scanned (G : Fin 12 → Vec F S168x64 .f32) (wr wz wn : Vec F S64x64 .f32) (bn : Vec F S1x64 .f32) (k : ℕ)
    (X : Vec F S672x64 .f32) : Prop :=
  ∀ (b : Fin 4) (t : Fin 168) (j : Fin 64), t.val < k →
    X (ValueIdx.ix2 ⟨168 * b.val + t.val, by omega⟩ j) = hst G wr wz wn bn (t.val + 1) (ValueIdx.ix2 b j)

/-- The same, with nothing asked before the first step. -/
def ScannedFrom (G : Fin 12 → Vec F S168x64 .f32) (wr wz wn : Vec F S64x64 .f32) (bn : Vec F S1x64 .f32) (k : ℕ)
    (X : Vec F S672x64 .f32) : Prop :=
  match k with
  | 0 => True
  | k + 1 => Scanned G wr wz wn bn (k + 1) X

theorem scannedFrom_iff (G : Fin 12 → Vec F S168x64 .f32) (wr wz wn : Vec F S64x64 .f32) (bn : Vec F S1x64 .f32) (k : ℕ)
    (X : Vec F S672x64 .f32) : ScannedFrom G wr wz wn bn k X = True ↔ Scanned G wr wz wn bn k X := by
  rw [eq_iff_iff, iff_true]
  cases k with
  | zero => exact ⟨fun _ _ _ _ h => absurd h (Nat.not_lt_zero _), fun _ => trivial⟩
  | succ k => exact Iff.rfl

/-- Batch `b` of the input series. -/
def xslab (x : Vec F S4x168x2048 .f32) (b : Fin 4) : Vec F S1x168x2048 .f32 := fun y => x (ValueIdx.ix3 b (y 1) (y 2))

/-- Batch `b` of the time marks. -/
def mslab (x : Vec F S4x168x4 .f32) (b : Fin 4) : Vec F S1x168x4 .f32 := fun y => x (ValueIdx.ix3 b (y 1) (y 2))

/-- The spatial rows of batch `b`: two dense layers over the series of each node and its embedding. -/
def spat (x : Vec F S4x168x2048 .f32) (se : Vec F S2048x32 .f32) (w1x : Vec F S168x64 .f32) (w1s : Vec F S32x64 .f32)
    (b1 : Vec F S1x64 .f32) (w2 : Vec F S64x64 .f32) (b2 : Vec F S1x64 .f32) (b : Fin 4) : FVec F S2048x64 .bf16 :=
  k0_pay18 (k0_pay11 se w1s b1) w2 (k0_pay12 b2) (xslab x b) w1x

/-- One gate's input rows of batch `b`: the series, the marks and the augmented time embedding through the gate's weights. -/
def gi (x : Vec F S4x168x2048 .f32) (mk : Vec F S4x168x4 .f32) (tm : Vec F S168x33 .f32) (wx : Vec F S2048x64 .f32)
    (wm : Vec F S4x64 .f32) (te : Vec F S33x64 .f32) (b : Fin 4) : FVec F S168x64 .f32 :=
  k0_pay31 (k0_pay28 tm te) (xslab x b) wx (mslab mk b) wm

/-- The twelve gate inputs, gate by gate and batch by batch. -/
def gis (x : Vec F S4x168x2048 .f32) (mk : Vec F S4x168x4 .f32) (tm : Vec F S168x33 .f32) (wxr wxz wxn : Vec F S2048x64 .f32)
    (wmr wmz wmn : Vec F S4x64 .f32) (ter tez ten : Vec F S33x64 .f32) : Fin 12 → Vec F S168x64 .f32 :=
  ![gi x mk tm wxr wmr ter 0, gi x mk tm wxr wmr ter 1, gi x mk tm wxr wmr ter 2, gi x mk tm wxr wmr ter 3,
    gi x mk tm wxz wmz tez 0, gi x mk tm wxz wmz tez 1, gi x mk tm wxz wmz tez 2, gi x mk tm wxz wmz tez 3,
    gi x mk tm wxn wmn ten 0, gi x mk tm wxn wmn ten 1, gi x mk tm wxn wmn ten 2, gi x mk tm wxn wmn ten 3]

/-- The scan's hidden states of batch `b`, step by step. -/
def hrows (G : Fin 12 → Vec F S168x64 .f32) (wr wz wn : Vec F S64x64 .f32) (bn : Vec F S1x64 .f32) (b : Fin 4) : Vec F S168x64 .f32 :=
  fun y => hst G wr wz wn bn ((y 0).val + 1) (ValueIdx.ix2 b (y 1))

/-- The feature buffer: in batch `b`'s 2304 rows the spatial rows `S b`, the temporal rows `T b`, rows of zeros, and a
    column of ones behind them. -/
def feat (S : Fin 4 → Vec F S2048x64 .bf16) (T : Fin 4 → Vec F S168x64 .f32) : Vec F S9216x65 .bf16 := fun y =>
  have h0 : (y 0).val < 9216 := (y 0).isLt
  if hc : (y 1).val < 64 then
    if hr : (y 0).val % 2304 < 2048 then S ⟨(y 0).val / 2304, by omega⟩ (ValueIdx.ix2 ⟨(y 0).val % 2304, hr⟩ ⟨(y 1).val, hc⟩)
    else if hr' : (y 0).val % 2304 < 2216 then
      k0_pay57 (T ⟨(y 0).val / 2304, by omega⟩) (ValueIdx.ix2 ⟨(y 0).val % 2304 - 2048, by omega⟩ ⟨(y 1).val, hc⟩)
    else k0_pay15 (F := F) (ValueIdx.ix2 0 0)
  else k0_pay13 (F := F) (ValueIdx.ix2 0 0)

end Cert.KernelIdeal.Hand
-- ==== Proof.K.Second.lean ====
module

public import proofs.«01_k».proof.Proof.Gen.KernelIdeal.Frame
public import proofs.«01_k».proof.Proof.K.Names

/-! What the kernel body does at the points of the second layer (`l = 1`): it reads the adjacency matrix and the
    augmented first-layer rows the point before left, and writes one output block. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three branch conditions of the body: first point, first layer, second layer. -/
abbrev cond0_0 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
abbrev cond0_1 (i : grid0.Coords) : Prop := k0_cond2 i = 1#1
abbrev cond0_2 (i : grid0.Coords) : Prop := k0_cond3 i = 1#1

variable (c : Dev nD) (i : grid0.Coords)
  (arg2 : Memref sig .tc .vmem S4x168x2048 .f32) (harg2 : arg2.IsWhole) (arg3 : Memref sig .tc .vmem S4x168x4 .f32) (harg3 : arg3.IsWhole)
  (arg4 : Memref sig .tc .vmem S2048x32 .f32) (harg4 : arg4.IsWhole) (arg5 : Memref sig .tc .vmem S168x64 .f32) (harg5 : arg5.IsWhole)
  (arg6 : Memref sig .tc .vmem S32x64 .f32) (harg6 : arg6.IsWhole) (arg7 : Memref sig .tc .vmem S1x64 .f32) (harg7 : arg7.IsWhole)
  (arg8 : Memref sig .tc .vmem S64x64 .f32) (harg8 : arg8.IsWhole) (arg9 : Memref sig .tc .vmem S1x64 .f32) (harg9 : arg9.IsWhole)
  (arg10 : Memref sig .tc .vmem S168x33 .f32) (harg10 : arg10.IsWhole) (arg11 : Memref sig .tc .vmem S2048x64 .f32) (harg11 : arg11.IsWhole)
  (arg12 : Memref sig .tc .vmem S2048x64 .f32) (harg12 : arg12.IsWhole) (arg13 : Memref sig .tc .vmem S2048x64 .f32) (harg13 : arg13.IsWhole)
  (arg14 : Memref sig .tc .vmem S4x64 .f32) (harg14 : arg14.IsWhole) (arg15 : Memref sig .tc .vmem S4x64 .f32) (harg15 : arg15.IsWhole)
  (arg16 : Memref sig .tc .vmem S4x64 .f32) (harg16 : arg16.IsWhole) (arg17 : Memref sig .tc .vmem S33x64 .f32) (harg17 : arg17.IsWhole)
  (arg18 : Memref sig .tc .vmem S33x64 .f32) (harg18 : arg18.IsWhole) (arg19 : Memref sig .tc .vmem S33x64 .f32) (harg19 : arg19.IsWhole)
  (arg20 : Memref sig .tc .vmem S64x64 .f32) (harg20 : arg20.IsWhole) (arg21 : Memref sig .tc .vmem S64x64 .f32) (harg21 : arg21.IsWhole)
  (arg22 : Memref sig .tc .vmem S64x64 .f32) (harg22 : arg22.IsWhole) (arg23 : Memref sig .tc .vmem S1x64 .f32) (harg23 : arg23.IsWhole)
  (arg24 : Memref sig .tc .vmem S64x64 .f32) (harg24 : arg24.IsWhole) (arg25 : Memref sig .tc .vmem S1x64 .f32) (harg25 : arg25.IsWhole)
  (arg26 : Memref sig .tc .vmem S64x64 .f32) (harg26 : arg26.IsWhole) (arg27 : Memref sig .tc .vmem S1x64 .f32) (harg27 : arg27.IsWhole)
  (arg28 : Memref sig .tc .vmem S1x2304x64 .f32) (harg28 : arg28.IsWhole) (arg29 : Memref sig .tc .vmem S9216x65 .bf16) (harg29 : arg29.IsWhole)
  (arg30 : Memref sig .tc .vmem S2304x65 .bf16) (harg30 : arg30.IsWhole) (arg31 : Memref sig .tc .vmem S2304x2304 .bf16) (harg31 : arg31.IsWhole)
  (arg32 : Memref sig .tc .vmem S672x64 .f32) (harg32 : arg32.IsWhole) (arg33 : Memref sig .tc .vmem S168x64 .f32) (harg33 : arg33.IsWhole)
  (arg34 : Memref sig .tc .vmem S168x64 .f32) (harg34 : arg34.IsWhole) (arg35 : Memref sig .tc .vmem S168x64 .f32) (harg35 : arg35.IsWhole)
  (arg36 : Memref sig .tc .vmem S168x64 .f32) (harg36 : arg36.IsWhole) (arg37 : Memref sig .tc .vmem S168x64 .f32) (harg37 : arg37.IsWhole)
  (arg38 : Memref sig .tc .vmem S168x64 .f32) (harg38 : arg38.IsWhole) (arg39 : Memref sig .tc .vmem S168x64 .f32) (harg39 : arg39.IsWhole)
  (arg40 : Memref sig .tc .vmem S168x64 .f32) (harg40 : arg40.IsWhole) (arg41 : Memref sig .tc .vmem S168x64 .f32) (harg41 : arg41.IsWhole)
  (arg42 : Memref sig .tc .vmem S168x64 .f32) (harg42 : arg42.IsWhole) (arg43 : Memref sig .tc .vmem S168x64 .f32) (harg43 : arg43.IsWhole)
  (arg44 : Memref sig .tc .vmem S168x64 .f32) (harg44 : arg44.IsWhole)

/-- The body at a second-layer point: the output block becomes `k0_pay5` of the four buffers read. -/
theorem run_second (hc0 : ¬ cond0_0 i) (hc1 : ¬ cond0_1 i) (hc2 : cond0_2 i)
    (w : Vec F S64x64 .f32) (b : Vec F S1x64 .f32) (H : Vec F S2304x65 .bf16) (A : Vec F S2304x2304 .bf16)
    (E : Set ℕ) (K : PUnit → sProp 𝕄) :
    iprop(owns (c : Thread nD τ) arg26 fullShare w ∗ owns (c : Thread nD τ) arg27 fullShare b
      ∗ owns (c : Thread nD τ) arg30 fullShare H ∗ owns (c : Thread nD τ) arg31 fullShare A
      ∗ (∃ d, owns (c : Thread nD τ) arg28 fullShare d)
      ∗ (iprop(owns (c : Thread nD τ) arg26 fullShare w ∗ owns (c : Thread nD τ) arg27 fullShare b
          ∗ owns (c : Thread nD τ) arg30 fullShare H ∗ owns (c : Thread nD τ) arg31 fullShare A
          ∗ owns (c : Thread nD τ) arg28 fullShare (k0_pay5 A H w b)) -∗ K ⟨⟩))
    ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0__fused_body_eq_skeleton]; unfold cc0__fused_body_skel
  unfold owns
  iintro ⟨⟨%f24, %hf24, H24⟩, ⟨%f25, %hf25, H25⟩, ⟨%g1, %hg1, HS1⟩, ⟨%g2, %hg2, HS2⟩, ⟨%d, %f26, %hf26, H26⟩, Hk⟩
  obtain rfl := harg26.eq_unread hf24; obtain rfl := harg27.eq_unread hf25
  obtain rfl := harg30.eq_unread hg1; obtain rfl := harg31.eq_unread hg2
  sl_exec (disch := first | sl_exact hc0 | sl_exact hc1 | sl_exact hc2)
  sl_step
  iapply Hk
  isplitl [H24]
  · iexists _; isplitr; · ipureintro; exact harg26.read_unread _
    iexact H24
  isplitl [H25]
  · iexists _; isplitr; · ipureintro; exact harg27.read_unread _
    iexact H25
  isplitl [HS1]
  · iexists _; isplitr; · ipureintro; exact harg30.read_unread _
    iexact HS1
  isplitl [HS2]
  · iexists _; isplitr; · ipureintro; exact harg31.read_unread _
    iexact HS2
  iexists _; isplitr; swap; · iexact H26
  ipureintro
  rw [View.read_writes_full]
  exact congr (congr (congr (congrArg k0_pay5 ((View.readAt_full _ _ _).trans (harg31.read_unread _)))
    ((View.readAt_full _ _ _).trans (harg30.read_unread _))) ((View.readAt_full _ _ _).trans (harg26.read_unread _)))
    ((View.readAt_full _ _ _).trans (harg27.read_unread _))

end Cert.KernelIdeal.Hand
-- ==== Proof.K.First.lean ====
module

public import proofs.«01_k».proof.Proof.Gen.KernelIdeal.Frame
public import proofs.«01_k».proof.Proof.K.Second

/-! What the kernel body does at the first-layer points (`l = 0`) of the batches after the first: from the batch's rows
    of the feature buffer it leaves the adjacency matrix, the augmented first-layer rows and one output block. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S4x168x2048 .f32) (harg2 : arg2.IsWhole) (arg3 : Memref sig .tc .vmem S4x168x4 .f32) (harg3 : arg3.IsWhole)
  (arg4 : Memref sig .tc .vmem S2048x32 .f32) (harg4 : arg4.IsWhole) (arg5 : Memref sig .tc .vmem S168x64 .f32) (harg5 : arg5.IsWhole)
  (arg6 : Memref sig .tc .vmem S32x64 .f32) (harg6 : arg6.IsWhole) (arg7 : Memref sig .tc .vmem S1x64 .f32) (harg7 : arg7.IsWhole)
  (arg8 : Memref sig .tc .vmem S64x64 .f32) (harg8 : arg8.IsWhole) (arg9 : Memref sig .tc .vmem S1x64 .f32) (harg9 : arg9.IsWhole)
  (arg10 : Memref sig .tc .vmem S168x33 .f32) (harg10 : arg10.IsWhole) (arg11 : Memref sig .tc .vmem S2048x64 .f32) (harg11 : arg11.IsWhole)
  (arg12 : Memref sig .tc .vmem S2048x64 .f32) (harg12 : arg12.IsWhole) (arg13 : Memref sig .tc .vmem S2048x64 .f32) (harg13 : arg13.IsWhole)
  (arg14 : Memref sig .tc .vmem S4x64 .f32) (harg14 : arg14.IsWhole) (arg15 : Memref sig .tc .vmem S4x64 .f32) (harg15 : arg15.IsWhole)
  (arg16 : Memref sig .tc .vmem S4x64 .f32) (harg16 : arg16.IsWhole) (arg17 : Memref sig .tc .vmem S33x64 .f32) (harg17 : arg17.IsWhole)
  (arg18 : Memref sig .tc .vmem S33x64 .f32) (harg18 : arg18.IsWhole) (arg19 : Memref sig .tc .vmem S33x64 .f32) (harg19 : arg19.IsWhole)
  (arg20 : Memref sig .tc .vmem S64x64 .f32) (harg20 : arg20.IsWhole) (arg21 : Memref sig .tc .vmem S64x64 .f32) (harg21 : arg21.IsWhole)
  (arg22 : Memref sig .tc .vmem S64x64 .f32) (harg22 : arg22.IsWhole) (arg23 : Memref sig .tc .vmem S1x64 .f32) (harg23 : arg23.IsWhole)
  (arg24 : Memref sig .tc .vmem S64x64 .f32) (harg24 : arg24.IsWhole) (arg25 : Memref sig .tc .vmem S1x64 .f32) (harg25 : arg25.IsWhole)
  (arg26 : Memref sig .tc .vmem S64x64 .f32) (harg26 : arg26.IsWhole) (arg27 : Memref sig .tc .vmem S1x64 .f32) (harg27 : arg27.IsWhole)
  (arg28 : Memref sig .tc .vmem S1x2304x64 .f32) (harg28 : arg28.IsWhole) (arg29 : Memref sig .tc .vmem S9216x65 .bf16) (harg29 : arg29.IsWhole)
  (arg30 : Memref sig .tc .vmem S2304x65 .bf16) (harg30 : arg30.IsWhole) (arg31 : Memref sig .tc .vmem S2304x2304 .bf16) (harg31 : arg31.IsWhole)
  (arg32 : Memref sig .tc .vmem S672x64 .f32) (harg32 : arg32.IsWhole) (arg33 : Memref sig .tc .vmem S168x64 .f32) (harg33 : arg33.IsWhole)
  (arg34 : Memref sig .tc .vmem S168x64 .f32) (harg34 : arg34.IsWhole) (arg35 : Memref sig .tc .vmem S168x64 .f32) (harg35 : arg35.IsWhole)
  (arg36 : Memref sig .tc .vmem S168x64 .f32) (harg36 : arg36.IsWhole) (arg37 : Memref sig .tc .vmem S168x64 .f32) (harg37 : arg37.IsWhole)
  (arg38 : Memref sig .tc .vmem S168x64 .f32) (harg38 : arg38.IsWhole) (arg39 : Memref sig .tc .vmem S168x64 .f32) (harg39 : arg39.IsWhole)
  (arg40 : Memref sig .tc .vmem S168x64 .f32) (harg40 : arg40.IsWhole) (arg41 : Memref sig .tc .vmem S168x64 .f32) (harg41 : arg41.IsWhole)
  (arg42 : Memref sig .tc .vmem S168x64 .f32) (harg42 : arg42.IsWhole) (arg43 : Memref sig .tc .vmem S168x64 .f32) (harg43 : arg43.IsWhole)
  (arg44 : Memref sig .tc .vmem S168x64 .f32) (harg44 : arg44.IsWhole)

/-- A load of a whole buffer. -/
theorem load_all {s : Shape} {e : EltTy} (arg : Memref sig .tc .vmem s e) (harg : arg.IsWhole) (X : Vec F s e) {off : Fin s.rank → ℕ}
    (inb : ∀ a, off a + s.size a ≤ s.size a) :
    View.readAt (Elt F) arg.view (Rect.unit off s.size inb).toLoadRect (harg.unread X) = X :=
  (View.readAt_full _ _ _).trans (harg.read_unread _)

/-- A load of the batch's 64 feature columns. -/
theorem load_blk64 (X : BufTy.Contents (Elt F) arg29.view.ty) (inb : ∀ a, (k0_off3 i) a + S2304x64.size a ≤ S9216x65.size a) :
    View.readAt (Elt F) arg29.view (Rect.unit (s := S9216x65) (k0_off3 i) S2304x64.size inb).toLoadRect X = blk64 (arg29.view.read (Elt F) X) (i 0) := by
  have e := k0_off3_eq i
  have inb' : ∀ a, (![2304 * (i 0).val, 0] : Fin 2 → ℕ) a + S2304x64.size a ≤ S9216x65.size a := e ▸ inb
  rw [View.readAt_unit _ _ inb e inb']
  funext y
  unfold blk64 VecWindow.window
  congr 1
  funext a
  apply Fin.ext
  fin_cases a
  · show 2304 * (i 0).val + 1 * (y 0).val = 2304 * (i 0).val + (y 0).val; omega
  · show 0 + 1 * (y 1).val = (y 1).val; omega

/-- A load of the batch's rows with the column of ones. -/
theorem load_blk65 (X : BufTy.Contents (Elt F) arg29.view.ty) (inb : ∀ a, (k0_off4 i) a + S2304x65.size a ≤ S9216x65.size a) :
    View.readAt (Elt F) arg29.view (Rect.unit (s := S9216x65) (k0_off4 i) S2304x65.size inb).toLoadRect X = blk65 (arg29.view.read (Elt F) X) (i 0) := by
  have e := k0_off4_eq i
  have inb' : ∀ a, (![2304 * (i 0).val, 0] : Fin 2 → ℕ) a + S2304x65.size a ≤ S9216x65.size a := e ▸ inb
  rw [View.readAt_unit _ _ inb e inb']
  funext y
  unfold blk65 VecWindow.window
  congr 1
  funext a
  apply Fin.ext
  fin_cases a
  · show 2304 * (i 0).val + 1 * (y 0).val = 2304 * (i 0).val + (y 0).val; omega
  · show 0 + 1 * (y 1).val = (y 1).val; omega

/-- Two stores, the 64 feature columns and the column of ones, leave the augmented rows whatever was there. -/
theorem put_aug (x : Vec F S2304x65 .bf16) (h : Vec F S2304x64 .bf16) :
    VecWindow.put (VecWindow.put x ![0, 0] S2304x64.size h) ![0, 64] S2304x1.size (k0_pay3 (F := F)) = aug h := by
  funext y
  have h0 : (y 0).val < 2304 := (y 0).isLt
  have h1 : (y 1).val < 65 := (y 1).isLt
  unfold aug VecWindow.put
  by_cases hy : (y 1).val < 64
  · rw [dif_pos hy, dif_neg (fun hall => by
      have h2 : 64 ≤ (y 1).val ∧ (y 1).val < 64 + 1 := hall 1
      omega), dif_pos (fun a => by
      fin_cases a
      · show 0 ≤ (y 0).val ∧ (y 0).val < 0 + 2304; omega
      · show 0 ≤ (y 1).val ∧ (y 1).val < 0 + 64; omega)]
    congr 1
    funext a
    apply Fin.ext
    fin_cases a
    · show (y 0).val - 0 = (y 0).val; omega
    · show (y 1).val - 0 = (y 1).val; omega
  · rw [dif_neg hy, dif_pos (fun a => by
      fin_cases a
      · show 0 ≤ (y 0).val ∧ (y 0).val < 0 + 2304; omega
      · show 64 ≤ (y 1).val ∧ (y 1).val < 64 + 1; omega)]
    congr 1
    funext a
    apply Fin.ext
    fin_cases a
    · show (y 0).val - 0 = (y 0).val; omega
    · show (y 1).val - 64 = 0; omega

/-- The body at a first-layer point after the first: the batch's adjacency matrix, the augmented first-layer rows and
    the output block are functions of the feature buffer and the layer's weights. -/
theorem run_first (hc0 : ¬ cond0_0 i) (hc1 : cond0_1 i) (hc2 : ¬ cond0_2 i)
    (w : Vec F S64x64 .f32) (b : Vec F S1x64 .f32) (X : Vec F S9216x65 .bf16)
    (E : Set ℕ) (K : PUnit → sProp 𝕄) :
    iprop(owns (c : Thread nD τ) arg24 fullShare w ∗ owns (c : Thread nD τ) arg25 fullShare b
      ∗ owns (c : Thread nD τ) arg29 fullShare X
      ∗ (∃ d, owns (c : Thread nD τ) arg30 fullShare d) ∗ (∃ d, owns (c : Thread nD τ) arg31 fullShare d)
      ∗ (∃ d, owns (c : Thread nD τ) arg28 fullShare d)
      ∗ (iprop(owns (c : Thread nD τ) arg24 fullShare w ∗ owns (c : Thread nD τ) arg25 fullShare b
          ∗ owns (c : Thread nD τ) arg29 fullShare X
          ∗ owns (c : Thread nD τ) arg30 fullShare (aug (k0_pay63 (blk64 X (i 0)) (blk65 X (i 0)) w b))
          ∗ owns (c : Thread nD τ) arg31 fullShare (k0_pay60 (blk64 X (i 0)))
          ∗ owns (c : Thread nD τ) arg28 fullShare (k0_pay4 (k0_pay62 (blk64 X (i 0)) (blk65 X (i 0)) w b))) -∗ K ⟨⟩))
    ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0__fused_body_eq_skeleton]; unfold cc0__fused_body_skel
  unfold owns
  iintro ⟨⟨%f24, %hf24, H24⟩, ⟨%f25, %hf25, H25⟩, ⟨%f29, %hf29, H29⟩, ⟨%d30, %f30, %hf30, H30⟩, ⟨%d31, %f31, %hf31, H31⟩, ⟨%d28, %f28, %hf28, H28⟩, Hk⟩
  obtain rfl := harg24.eq_unread hf24; obtain rfl := harg25.eq_unread hf25
  obtain rfl := harg29.eq_unread hf29
  sl_exec (disch := first | sl_exact hc0 | sl_exact hc1 | sl_exact hc2)
  sl_step
  iapply Hk
  isplitl [H24]
  · iexists _; isplitr; · ipureintro; exact harg24.read_unread _
    iexact H24
  isplitl [H25]
  · iexists _; isplitr; · ipureintro; exact harg25.read_unread _
    iexact H25
  isplitl [H29]
  · iexists _; isplitr; · ipureintro; exact harg29.read_unread _
    iexact H29
  isplitl [H30]
  · iexists _; isplitr; swap; · iexact H30
    ipureintro
    rw [View.read_writes_cons_put _ _ _ _ _ rfl, View.read_writes_cons_put _ _ _ _ _ rfl]
    refine (put_aug _ _).trans (congrArg aug ?_)
    unfold k0_pay2
    rw [shapeCast_self]
    delta run_first.sl.r_1
    rw [load_blk64, load_blk65, harg29.read_unread]
    exact congr (congrArg (k0_pay63 _ _) (load_all _ harg24 w _)) (load_all _ harg25 b _)
  isplitl [H31]
  · iexists _; isplitr; swap; · iexact H31
    ipureintro
    rw [View.read_writes_full, load_blk64, harg29.read_unread]
    unfold k0_pay61
    rw [shapeCast_self]
  iexists _; isplitr; swap; · iexact H28
  ipureintro
  rw [View.read_writes_full]
  delta run_first.sl.r
  rw [load_blk64, load_blk65, harg29.read_unread]
  exact congrArg k0_pay4 (congr (congrArg (k0_pay62 _ _) (load_all _ harg24 w _)) (load_all _ harg25 b _))

end Cert.KernelIdeal.Hand
-- ==== Proof.K.Dat.lean ====
module

public import proofs.«01_k».proof.Proof.K.Second
public import proofs.«01_k».proof.Proof.K.First
public import proofs.«01_k».proof.Proof.K.Names
public import Idealize.ShloMosaic.Lib.Claim
public import Idealize.ShloMosaic.Lib.WordCmp

/-! What the grid's points leave: the branch conditions in closed form, the carried scratch buffers point by point, and
    the pipeline's proof data built from them. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The setup branch is taken at the first point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 8 = 0)

/-- The first-layer branch is taken at the even points. -/
theorem hcond0_1 : ∀ t : Fin cfg0.N, cond0_1 (grid0.coords t) ↔ t.val % 2 = 0 :=
  (fun t => by
    have ht : t.val < 8 := Nat.lt_of_lt_of_eq t.isLt N_0
    have e1 : (grid0.coords t 1).val = t.val / 1 % 2 := Pipeline.Grid.coords_val t 1 (by decide) rfl
    simp only [cond0_1, k0_cond2, e1]
    word_cmp
   : ∀ t : Fin grid0.N, cond0_1 (grid0.coords t) ↔ t.val % 2 = 0)

/-- The second-layer branch is taken at the odd points. -/
theorem hcond0_2 : ∀ t : Fin cfg0.N, cond0_2 (grid0.coords t) ↔ t.val % 2 = 1 :=
  (fun t => by
    have ht : t.val < 8 := Nat.lt_of_lt_of_eq t.isLt N_0
    have e1 : (grid0.coords t 1).val = t.val / 1 % 2 := Pipeline.Grid.coords_val t 1 (by decide) rfl
    simp only [cond0_2, k0_cond3, e1]
    word_cmp
   : ∀ t : Fin grid0.N, cond0_2 (grid0.coords t) ↔ t.val % 2 = 1)

/-- The output window is stored into at every point. -/
theorem live_out : ∀ t : Fin cfg0.N, cfg0.idle 26 (grid0.coords t) = false := by decide +kernel

/-! ## The scratch buffers -/
/-- Scratch buffer 0, whole. -/
abbrev scr0 : Memref sig .tc .vmem S9216x65 .bf16 := Memref.whole cc0_scratch0
/-- Scratch buffer 1, whole. -/
abbrev scr1 : Memref sig .tc .vmem S2304x65 .bf16 := Memref.whole cc0_scratch1
/-- Scratch buffer 2, whole. -/
abbrev scr2 : Memref sig .tc .vmem S2304x2304 .bf16 := Memref.whole cc0_scratch2
/-- Scratch buffer 3, whole. -/
abbrev scr3 : Memref sig .tc .vmem S672x64 .f32 := Memref.whole cc0_scratch3
/-- Scratch buffer 4, whole. -/
abbrev scr4 : Memref sig .tc .vmem S168x64 .f32 := Memref.whole cc0_scratch4
/-- Scratch buffer 5, whole. -/
abbrev scr5 : Memref sig .tc .vmem S168x64 .f32 := Memref.whole cc0_scratch5
/-- Scratch buffer 6, whole. -/
abbrev scr6 : Memref sig .tc .vmem S168x64 .f32 := Memref.whole cc0_scratch6
/-- Scratch buffer 7, whole. -/
abbrev scr7 : Memref sig .tc .vmem S168x64 .f32 := Memref.whole cc0_scratch7
/-- Scratch buffer 8, whole. -/
abbrev scr8 : Memref sig .tc .vmem S168x64 .f32 := Memref.whole cc0_scratch8
/-- Scratch buffer 9, whole. -/
abbrev scr9 : Memref sig .tc .vmem S168x64 .f32 := Memref.whole cc0_scratch9
/-- Scratch buffer 10, whole. -/
abbrev scr10 : Memref sig .tc .vmem S168x64 .f32 := Memref.whole cc0_scratch10
/-- Scratch buffer 11, whole. -/
abbrev scr11 : Memref sig .tc .vmem S168x64 .f32 := Memref.whole cc0_scratch11
/-- Scratch buffer 12, whole. -/
abbrev scr12 : Memref sig .tc .vmem S168x64 .f32 := Memref.whole cc0_scratch12
/-- Scratch buffer 13, whole. -/
abbrev scr13 : Memref sig .tc .vmem S168x64 .f32 := Memref.whole cc0_scratch13
/-- Scratch buffer 14, whole. -/
abbrev scr14 : Memref sig .tc .vmem S168x64 .f32 := Memref.whole cc0_scratch14
/-- Scratch buffer 15, whole. -/
abbrev scr15 : Memref sig .tc .vmem S168x64 .f32 := Memref.whole cc0_scratch15

/-- The scratch buffers of the setup alone: the hidden rows and the twelve gates' inputs, at anything. -/
def rest (c : Dev nD) : sProp 𝕄 :=
  iprop((∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d) ∗ (∃ d, owns (c : Thread nD τ) scr10 fullShare d) ∗ (∃ d, owns (c : Thread nD τ) scr11 fullShare d) ∗ (∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d))

/-- The pipeline's own invariant, with the scratch buffers as memrefs. -/
theorem phiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ rest c) ∗ ∃ r, prngReg c r) := by
  unfold Pipeline.ΦA; rw [scopedRest0_eq]; simp only [rest, scr0, scr1, scr2, scr3, scr4, scr5, scr6, scr7, scr8, scr9, scr10, scr11, scr12, scr13, scr14, scr15, owns_whole]; try rfl

/-! ## The contents point by point -/

/-- The first point. -/
abbrev pt0 : Fin cfg0.N := ⟨0, by rw [show cfg0.N = 8 from N_0]; omega⟩

/-- The first-layer point of the batch that point `n` belongs to. -/
def evn (n : ℕ) (hn : n < cfg0.N) : Fin cfg0.N := ⟨n / 2 * 2, by omega⟩

/-- The feature buffer the first point leaves. -/
def featAt (c : Dev nD) : Vec F S9216x65 .bf16 :=
  feat (spat (iblk m c 0 pt0) (iblk m c 2 pt0) (iblk m c 3 pt0) (iblk m c 4 pt0) (iblk m c 5 pt0) (iblk m c 6 pt0) (iblk m c 7 pt0))
    (hrows (gis (iblk m c 0 pt0) (iblk m c 1 pt0) (iblk m c 8 pt0) (iblk m c 9 pt0) (iblk m c 10 pt0) (iblk m c 11 pt0)
      (iblk m c 12 pt0) (iblk m c 13 pt0) (iblk m c 14 pt0) (iblk m c 15 pt0) (iblk m c 16 pt0) (iblk m c 17 pt0))
      (iblk m c 18 pt0) (iblk m c 19 pt0) (iblk m c 20 pt0) (iblk m c 21 pt0))

/-- The first-layer rows (with the column of ones) that the even point `t` leaves. -/
def hidAt (c : Dev nD) (t : Fin cfg0.N) : Vec F S2304x65 .bf16 :=
  aug (k0_pay63 (blk64 (featAt m c) (grid0.coords t 0)) (blk65 (featAt m c) (grid0.coords t 0)) (iblk m c 22 t) (iblk m c 23 t))

/-- The adjacency matrix that the even point `t` leaves. -/
def adjAt (c : Dev nD) (t : Fin cfg0.N) : Vec F S2304x2304 .bf16 :=
  k0_pay60 (blk64 (featAt m c) (grid0.coords t 0))

/-- The output block after point `t`: the first layer's at the even points, the second layer's at the odd ones. -/
def outAt (c : Dev nD) (t : Fin cfg0.N) : Vec F S1x2304x64 .f32 :=
  if t.val % 2 = 0 then
    k0_pay4 (k0_pay62 (blk64 (featAt m c) (grid0.coords t 0)) (blk65 (featAt m c) (grid0.coords t 0)) (iblk m c 22 t) (iblk m c 23 t))
  else k0_pay5 (adjAt m c (evn t.val t.isLt)) (hidAt m c (evn t.val t.isLt)) (iblk m c 24 t) (iblk m c 25 t)

/-- The invariant before position `n`: anything before the first point; afterwards the feature buffer, the hidden rows
    and the adjacency matrix of the point's batch, the other scratch buffers at anything. -/
def PhiS (c : Dev nD) : (n : ℕ) → n ≤ cfg0.N → sProp 𝕄
  | 0, _ => Pipeline.ΦA spec0 c
  | n + 1, hn => iprop(iprop(owns (c : Thread nD τ) scr0 fullShare (featAt m c)
      ∗ owns (c : Thread nD τ) scr1 fullShare (hidAt m c (evn n hn))
      ∗ owns (c : Thread nD τ) scr2 fullShare (adjAt m c (evn n hn)) ∗ rest c) ∗ ∃ r, prngReg c r)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr0 fullShare (featAt m c)
      ∗ owns (c : Thread nD τ) scr1 fullShare (hidAt m c (evn n hn))
      ∗ owns (c : Thread nD τ) scr2 fullShare (adjAt m c (evn n hn)) ∗ rest c) ∗ ∃ r, prngReg c r) := rfl

theorem PhiS_pos (c : Dev nD) (n : ℕ) (h : n ≤ cfg0.N) (hz : n ≠ 0) :
    PhiS m c n h = iprop(iprop(owns (c : Thread nD τ) scr0 fullShare (featAt m c)
      ∗ owns (c : Thread nD τ) scr1 fullShare (hidAt m c (evn (n - 1) (by omega)))
      ∗ owns (c : Thread nD τ) scr2 fullShare (adjAt m c (evn (n - 1) (by omega))) ∗ rest c) ∗ ∃ r, prngReg c r) := by
  cases n with
  | zero => exact absurd rfl hz
  | succ n => rfl

/-- The proof data of the pipeline on core `c`: the arrays as the region finds them, each input's buffer at its block
    after every point, the output's at `outAt`, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => outAt m c t
    | ⟨_ + 27, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d
theorem before_24 (c : Dev nD) (t : Fin cfg0.N) (d) : (dats m 0 c).before 24 t d = iblk m c 24 t :=
  before0_24_of m (dats m 0 c) (A_eq m c 24) (after_24 m c) t d
theorem before_25 (c : Dev nD) (t : Fin cfg0.N) (d) : (dats m 0 c).before 25 t d = iblk m c 25 t :=
  before0_25_of m (dats m 0 c) (A_eq m c 25) (after_25 m c) t d

/-- Every window is live at every point: the body leaves its staging buffer owned at `after`. -/
theorem leaves_eq (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- The input windows' buffers of the setup at point `t`, each at its block. -/
def insA (c : Dev nD) (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t) ∗ owns (c : Thread nD τ) (st0_19 t) fullShare (iblk m c 19 t) ∗ owns (c : Thread nD τ) (st0_20 t) fullShare (iblk m c 20 t) ∗ owns (c : Thread nD τ) (st0_21 t) fullShare (iblk m c 21 t))

/-- The buffers of the two layers' weights and biases at point `t`, each at its block. -/
def insB (c : Dev nD) (t : Fin cfg0.N) : sProp 𝕄 :=
  iprop(owns (c : Thread nD τ) (st0_22 t) fullShare (iblk m c 22 t) ∗ owns (c : Thread nD τ) (st0_23 t) fullShare (iblk m c 23 t) ∗ owns (c : Thread nD τ) (st0_24 t) fullShare (iblk m c 24 t) ∗ owns (c : Thread nD τ) (st0_25 t) fullShare (iblk m c 25 t))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t ∗ (dats m 0 c).leavesExact 22 t ∗ (dats m 0 c).leavesExact 23 t ∗ (dats m 0 c).leavesExact 24 t ∗ (dats m 0 c).leavesExact 25 t ∗ (dats m 0 c).leavesExact 26 t)

/-- The precondition, by the blocks. -/
theorem pre_blocks (c : Dev nD) (t : Fin cfg0.N) :
    bodyPre m c t ⊢ iprop(PhiS m c t.val (Nat.le_of_lt t.isLt) ∗ (dats m 0 c).owesAt () t.castSucc
      ∗ insA m c t ∗ insB m c t ∗ ∃ d, owns (c : Thread nD τ) (st0_26 t) fullShare d) := by
  unfold bodyPre insA insB
  simp only [before_0, before_1, before_2, before_3, before_4, before_5, before_6, before_7, before_8, before_9, before_10, before_11, before_12, before_13, before_14, before_15, before_16, before_17, before_18, before_19, before_20, before_21, before_22, before_23, before_24, before_25, PhiS_castSucc]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  isplitl [HP]; · iexact HP
  isplitl [Ho]; · iexact Ho
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22 H23 H24 H25]
  · isplitl [H22]; · iexact H22
    isplitl [H23]; · iexact H23
    isplitl [H24]; · iexact H24
    iexact H25
  iexists _; iexact H26

/-- The postcondition, by the blocks. -/
theorem post_blocks (c : Dev nD) (t : Fin cfg0.N) :
    iprop(PhiS m c (t.val + 1) t.isLt ∗ (dats m 0 c).owesAt () t.castSucc
      ∗ insA m c t ∗ insB m c t ∗ owns (c : Thread nD τ) (st0_26 t) fullShare (outAt m c t)) ⊢ bodyPost m c t := by
  unfold bodyPost insA insB
  rw [show (dats m 0 c).owesAt () t.succ = (dats m 0 c).owesAt () t.castSucc from rfl]
  rw [show (dats m 0 c).Φ t.succ = PhiS m c (t.val + 1) t.isLt from rfl]
  rw [leaves_eq m c 0 t rfl, after_0, leaves_eq m c 1 t rfl, after_1, leaves_eq m c 2 t rfl, after_2, leaves_eq m c 3 t rfl, after_3, leaves_eq m c 4 t rfl, after_4, leaves_eq m c 5 t rfl, after_5, leaves_eq m c 6 t rfl, after_6, leaves_eq m c 7 t rfl, after_7, leaves_eq m c 8 t rfl, after_8, leaves_eq m c 9 t rfl, after_9, leaves_eq m c 10 t rfl, after_10, leaves_eq m c 11 t rfl, after_11, leaves_eq m c 12 t rfl, after_12, leaves_eq m c 13 t rfl, after_13, leaves_eq m c 14 t rfl, after_14, leaves_eq m c 15 t rfl, after_15, leaves_eq m c 16 t rfl, after_16, leaves_eq m c 17 t rfl, after_17, leaves_eq m c 18 t rfl, after_18, leaves_eq m c 19 t rfl, after_19, leaves_eq m c 20 t rfl, after_20, leaves_eq m c 21 t rfl, after_21, leaves_eq m c 22 t rfl, after_22, leaves_eq m c 23 t rfl, after_23, leaves_eq m c 24 t rfl, after_24, leaves_eq m c 25 t rfl, after_25, leaves_eq m c 26 t (live_out t), after_26]
  iintro ⟨HP, Ho, ⟨H0, H1, H2, H3, H4, H5, H6, H7, H8, H9, H10, H11, H12, H13, H14, H15, H16, H17, H18, H19, H20, H21⟩, ⟨H22, H23, H24, H25⟩, H26⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

end Cert.KernelIdeal.Hand
-- ==== Proof.K.Loop.lean ====
module

public import proofs.«01_k».proof.Proof.Gen.KernelIdeal.Frame
public import proofs.«01_k».proof.Proof.K.Names

/-! The recurrent scan's loop: the invariant of its trips. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `b` cut out of four rows. -/
theorem row_of_slice (v : FVec F S4x64 .f32) (b : Fin 4) (j : Fin 64) (h : S4x64.Slices ![b.val, 0] S1x64) :
    extractStridedSlice S1x64 ![b.val, 0] v h (ValueIdx.ix2 0 j) = v (ValueIdx.ix2 b j) := by
  unfold extractStridedSlice
  congr 1
  funext a
  apply Fin.ext
  fin_cases a
  · show b.val + 0 = b.val; omega
  · show 0 + j.val = j.val; omega

/-! The four rows laid in a trip are the rows of the step's result. -/

theorem pay53_apply (bn : Vec F S1x64 .f32) (a0 a1 a2 a3 a4 a5 : FVec F S4x64 .f32) (j : Fin 64) :
    k0_pay53 bn a0 a1 a2 a3 a4 a5 (ValueIdx.ix2 0 j) = k0_pay52 bn a0 a1 a2 a3 a4 a5 (ValueIdx.ix2 0 j) := by
  unfold k0_pay53
  rw [shapeCast_self]
  exact row_of_slice _ 0 j _

theorem pay54_apply (bn : Vec F S1x64 .f32) (a0 a1 a2 a3 a4 a5 : FVec F S4x64 .f32) (j : Fin 64) :
    k0_pay54 bn a0 a1 a2 a3 a4 a5 (ValueIdx.ix2 0 j) = k0_pay52 bn a0 a1 a2 a3 a4 a5 (ValueIdx.ix2 1 j) := by
  unfold k0_pay54
  rw [shapeCast_self]
  exact row_of_slice _ 1 j _

theorem pay55_apply (bn : Vec F S1x64 .f32) (a0 a1 a2 a3 a4 a5 : FVec F S4x64 .f32) (j : Fin 64) :
    k0_pay55 bn a0 a1 a2 a3 a4 a5 (ValueIdx.ix2 0 j) = k0_pay52 bn a0 a1 a2 a3 a4 a5 (ValueIdx.ix2 2 j) := by
  unfold k0_pay55
  rw [shapeCast_self]
  exact row_of_slice _ 2 j _

theorem pay56_apply (bn : Vec F S1x64 .f32) (a0 a1 a2 a3 a4 a5 : FVec F S4x64 .f32) (j : Fin 64) :
    k0_pay56 bn a0 a1 a2 a3 a4 a5 (ValueIdx.ix2 0 j) = k0_pay52 bn a0 a1 a2 a3 a4 a5 (ValueIdx.ix2 3 j) := by
  unfold k0_pay56
  rw [shapeCast_self]
  exact row_of_slice _ 3 j _

variable (c : Dev nD) (i : grid0.Coords)
  (arg2 : Memref sig .tc .vmem S4x168x2048 .f32) (harg2 : arg2.IsWhole) (arg3 : Memref sig .tc .vmem S4x168x4 .f32) (harg3 : arg3.IsWhole)
  (arg4 : Memref sig .tc .vmem S2048x32 .f32) (harg4 : arg4.IsWhole) (arg5 : Memref sig .tc .vmem S168x64 .f32) (harg5 : arg5.IsWhole)
  (arg6 : Memref sig .tc .vmem S32x64 .f32) (harg6 : arg6.IsWhole) (arg7 : Memref sig .tc .vmem S1x64 .f32) (harg7 : arg7.IsWhole)
  (arg8 : Memref sig .tc .vmem S64x64 .f32) (harg8 : arg8.IsWhole) (arg9 : Memref sig .tc .vmem S1x64 .f32) (harg9 : arg9.IsWhole)
  (arg10 : Memref sig .tc .vmem S168x33 .f32) (harg10 : arg10.IsWhole) (arg11 : Memref sig .tc .vmem S2048x64 .f32) (harg11 : arg11.IsWhole)
  (arg12 : Memref sig .tc .vmem S2048x64 .f32) (harg12 : arg12.IsWhole) (arg13 : Memref sig .tc .vmem S2048x64 .f32) (harg13 : arg13.IsWhole)
  (arg14 : Memref sig .tc .vmem S4x64 .f32) (harg14 : arg14.IsWhole) (arg15 : Memref sig .tc .vmem S4x64 .f32) (harg15 : arg15.IsWhole)
  (arg16 : Memref sig .tc .vmem S4x64 .f32) (harg16 : arg16.IsWhole) (arg17 : Memref sig .tc .vmem S33x64 .f32) (harg17 : arg17.IsWhole)
  (arg18 : Memref sig .tc .vmem S33x64 .f32) (harg18 : arg18.IsWhole) (arg19 : Memref sig .tc .vmem S33x64 .f32) (harg19 : arg19.IsWhole)
  (arg20 : Memref sig .tc .vmem S64x64 .f32) (harg20 : arg20.IsWhole) (arg21 : Memref sig .tc .vmem S64x64 .f32) (harg21 : arg21.IsWhole)
  (arg22 : Memref sig .tc .vmem S64x64 .f32) (harg22 : arg22.IsWhole) (arg23 : Memref sig .tc .vmem S1x64 .f32) (harg23 : arg23.IsWhole)
  (arg24 : Memref sig .tc .vmem S64x64 .f32) (harg24 : arg24.IsWhole) (arg25 : Memref sig .tc .vmem S1x64 .f32) (harg25 : arg25.IsWhole)
  (arg26 : Memref sig .tc .vmem S64x64 .f32) (harg26 : arg26.IsWhole) (arg27 : Memref sig .tc .vmem S1x64 .f32) (harg27 : arg27.IsWhole)
  (arg28 : Memref sig .tc .vmem S1x2304x64 .f32) (harg28 : arg28.IsWhole) (arg29 : Memref sig .tc .vmem S9216x65 .bf16) (harg29 : arg29.IsWhole)
  (arg30 : Memref sig .tc .vmem S2304x65 .bf16) (harg30 : arg30.IsWhole) (arg31 : Memref sig .tc .vmem S2304x2304 .bf16) (harg31 : arg31.IsWhole)
  (arg32 : Memref sig .tc .vmem S672x64 .f32) (harg32 : arg32.IsWhole) (arg33 : Memref sig .tc .vmem S168x64 .f32) (harg33 : arg33.IsWhole)
  (arg34 : Memref sig .tc .vmem S168x64 .f32) (harg34 : arg34.IsWhole) (arg35 : Memref sig .tc .vmem S168x64 .f32) (harg35 : arg35.IsWhole)
  (arg36 : Memref sig .tc .vmem S168x64 .f32) (harg36 : arg36.IsWhole) (arg37 : Memref sig .tc .vmem S168x64 .f32) (harg37 : arg37.IsWhole)
  (arg38 : Memref sig .tc .vmem S168x64 .f32) (harg38 : arg38.IsWhole) (arg39 : Memref sig .tc .vmem S168x64 .f32) (harg39 : arg39.IsWhole)
  (arg40 : Memref sig .tc .vmem S168x64 .f32) (harg40 : arg40.IsWhole) (arg41 : Memref sig .tc .vmem S168x64 .f32) (harg41 : arg41.IsWhole)
  (arg42 : Memref sig .tc .vmem S168x64 .f32) (harg42 : arg42.IsWhole) (arg43 : Memref sig .tc .vmem S168x64 .f32) (harg43 : arg43.IsWhole)
  (arg44 : Memref sig .tc .vmem S168x64 .f32) (harg44 : arg44.IsWhole)

  (k0_h1 : k0_cond1 i = 1#1) (v326 : FVec F S168x64 .f32) (v330 v332 v334 : Vec F S64x64 .f32) (v336 : Vec F S1x64 .f32)
  (G : Fin 12 → Vec F S168x64 .f32)

/-- A load of row `t` of a buffer. -/
theorem load_row (arg : Memref sig .tc .vmem S168x64 .f32) (X : BufTy.Contents (Elt F) arg.view.ty)
    (k : Fin k0_t1_loop.trips) (inb : ∀ a, (k0_off1 k) a + (![1, 64] : Fin 2 → ℕ) a ≤ S168x64.size a) :
    View.readAt (Elt F) arg.view (Rect.unit (s := S168x64) (k0_off1 k) ![1, 64] inb).toLoadRect X = rowOf (arg.view.read (Elt F) X) k.val := by
  have hk : k.val < 168 := Nat.lt_of_lt_of_le k.isLt k0_t1_abs.2.1
  have e := k0_off1_eq k
  have inb' : ∀ a, (![k.val, 0] : Fin 2 → ℕ) a + (![1, 64] : Fin 2 → ℕ) a ≤ S168x64.size a := e ▸ inb
  rw [View.readAt_unit _ _ inb e inb']
  funext y
  unfold rowOf VecWindow.window
  congr 1
  funext a
  apply Fin.ext
  have h0 : (y 0).val < 1 := (y 0).isLt
  fin_cases a
  · show k.val + 1 * (y 0).val = min k.val 167
    omega
  · show 0 + 1 * (y 1).val = (y 1).val
    omega

/-- The trips' pieces laid into the hidden rows: one more step scanned. -/
theorem scanned_step (k : Fin k0_t1_loop.trips) (f : BufTy.Contents (Elt F) arg32.view.ty)
    (h : Scanned G v330 v332 v334 v336 k.val (arg32.view.read (Elt F) f))
    (inb0 : ∀ a, (k0_off2 k 0#32) a + S1x64.size a ≤ S672x64.size a)
    (inb1 : ∀ a, (k0_off2 k 168#32) a + S1x64.size a ≤ S672x64.size a)
    (inb2 : ∀ a, (k0_off2 k 336#32) a + S1x64.size a ≤ S672x64.size a)
    (inb3 : ∀ a, (k0_off2 k 504#32) a + S1x64.size a ≤ S672x64.size a)
    (w0 w1 w2 w3 : FVec F S1x64 .f32)
    (e0 : ∀ j, w0 (ValueIdx.ix2 0 j) = hst G v330 v332 v334 v336 (k.val + 1) (ValueIdx.ix2 0 j))
    (e1 : ∀ j, w1 (ValueIdx.ix2 0 j) = hst G v330 v332 v334 v336 (k.val + 1) (ValueIdx.ix2 1 j))
    (e2 : ∀ j, w2 (ValueIdx.ix2 0 j) = hst G v330 v332 v334 v336 (k.val + 1) (ValueIdx.ix2 2 j))
    (e3 : ∀ j, w3 (ValueIdx.ix2 0 j) = hst G v330 v332 v334 v336 (k.val + 1) (ValueIdx.ix2 3 j)) :
    Scanned G v330 v332 v334 v336 (k.val + 1) (arg32.view.read (Elt F) (arg32.view.writes (Elt F) f
      [⟨Rect.unit (s := S672x64) (k0_off2 k 504#32) S1x64.size inb3, w3⟩, ⟨Rect.unit (s := S672x64) (k0_off2 k 336#32) S1x64.size inb2, w2⟩,
       ⟨Rect.unit (s := S672x64) (k0_off2 k 168#32) S1x64.size inb1, w1⟩, ⟨Rect.unit (s := S672x64) (k0_off2 k 0#32) S1x64.size inb0, w0⟩])) := by
  have hk : k.val < 168 := Nat.lt_of_lt_of_le k.isLt k0_t1_abs.2.1
  have o0 : k0_off2 k 0#32 = ![k.val, 0] := by simpa using k0_off2_eq k 0
  have o1 : k0_off2 k 168#32 = ![168 + k.val, 0] := by simpa using k0_off2_eq k 1
  have o2 : k0_off2 k 336#32 = ![336 + k.val, 0] := by simpa using k0_off2_eq k 2
  have o3 : k0_off2 k 504#32 = ![504 + k.val, 0] := by simpa using k0_off2_eq k 3
  rw [View.read_writes_cons_put _ _ inb3 _ _ o3, View.read_writes_cons_put _ _ inb2 _ _ o2, View.read_writes_cons_put _ _ inb1 _ _ o1,
    View.read_writes_cons_put _ _ inb0 _ _ o0, View.writes_nil]
  -- one row laid at offset `o`: read at row `r`
  have put_at : ∀ (X : Vec F S672x64 .f32) (o : ℕ) (w : FVec F S1x64 .f32) (r : Fin 672) (j : Fin 64),
      VecWindow.put X ![o, 0] S1x64.size w (ValueIdx.ix2 r j) = if r.val = o then w (ValueIdx.ix2 0 j) else X (ValueIdx.ix2 r j) := by
    intro X o w r j
    unfold VecWindow.put
    by_cases hr : r.val = o
    · rw [if_pos hr, dif_pos (by
        intro a
        fin_cases a
        · show o ≤ r.val ∧ r.val < o + 1; omega
        · show 0 ≤ j.val ∧ j.val < 0 + 64; omega)]
      congr 1
      funext a
      apply Fin.ext
      fin_cases a
      · show r.val - o = 0; omega
      · show j.val - 0 = j.val; omega
    · rw [if_neg hr, dif_neg (by
        intro hall
        have := hall 0
        have h2 : o ≤ r.val ∧ r.val < o + 1 := this
        omega)]
  intro b t j ht
  rw [put_at, put_at, put_at, put_at]
  by_cases hlt : t.val < k.val
  · have hb := b.isLt
    rw [if_neg (by show ¬ 168 * b.val + t.val = _; omega), if_neg (by show ¬ 168 * b.val + t.val = _; omega),
      if_neg (by show ¬ 168 * b.val + t.val = _; omega), if_neg (by show ¬ 168 * b.val + t.val = _; omega)]
    exact h b t j hlt
  · have hkt : t.val = k.val := by omega
    fin_cases b
    · rw [if_neg (by simp; omega), if_neg (by simp; omega), if_neg (by simp; omega), if_pos (by simp; omega), e0, hkt]; rfl
    · rw [if_neg (by simp; omega), if_neg (by simp; omega), if_pos (by simp; omega), e1, hkt]; rfl
    · rw [if_neg (by simp; omega), if_pos (by simp; omega), e2, hkt]; rfl
    · rw [if_pos (by simp; omega), e3, hkt]; rfl

variable (X33 : BufTy.Contents (Elt F) arg33.view.ty) (X34 : BufTy.Contents (Elt F) arg34.view.ty) (X35 : BufTy.Contents (Elt F) arg35.view.ty) (X36 : BufTy.Contents (Elt F) arg36.view.ty) (X37 : BufTy.Contents (Elt F) arg37.view.ty) (X38 : BufTy.Contents (Elt F) arg38.view.ty) (X39 : BufTy.Contents (Elt F) arg39.view.ty) (X40 : BufTy.Contents (Elt F) arg40.view.ty) (X41 : BufTy.Contents (Elt F) arg41.view.ty) (X42 : BufTy.Contents (Elt F) arg42.view.ty) (X43 : BufTy.Contents (Elt F) arg43.view.ty) (X44 : BufTy.Contents (Elt F) arg44.view.ty)

/-- The twelve gate inputs as the buffers hold them. -/
abbrev gates : Fin 12 → Vec F S168x64 .f32 :=
  ![arg33.view.read (Elt F) X33, arg34.view.read (Elt F) X34, arg35.view.read (Elt F) X35, arg36.view.read (Elt F) X36, arg37.view.read (Elt F) X37, arg38.view.read (Elt F) X38, arg39.view.read (Elt F) X39, arg40.view.read (Elt F) X40, arg41.view.read (Elt F) X41, arg42.view.read (Elt F) X42, arg43.view.read (Elt F) X43, arg44.view.read (Elt F) X44]

/-- The trips before trip `k`: the gate inputs as they are, the hidden rows scanned up to `k`, the carried state the
    scan's. -/
def inv (k : ℕ) (acc : FVec F S4x64 .f32) : sProp 𝕄 :=
  iprop((arg33.view.loc (c : Thread nD τ) ↦[arg33.view.set]{fullShare} X33) ∗ (arg34.view.loc (c : Thread nD τ) ↦[arg34.view.set]{fullShare} X34) ∗ (arg35.view.loc (c : Thread nD τ) ↦[arg35.view.set]{fullShare} X35) ∗ (arg36.view.loc (c : Thread nD τ) ↦[arg36.view.set]{fullShare} X36) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (arg40.view.loc (c : Thread nD τ) ↦[arg40.view.set]{fullShare} X40) ∗ (arg41.view.loc (c : Thread nD τ) ↦[arg41.view.set]{fullShare} X41) ∗ (arg42.view.loc (c : Thread nD τ) ↦[arg42.view.set]{fullShare} X42) ∗ (arg43.view.loc (c : Thread nD τ) ↦[arg43.view.set]{fullShare} X43) ∗ (arg44.view.loc (c : Thread nD τ) ↦[arg44.view.set]{fullShare} X44) ∗ (∃ f, (arg32.view.loc (c : Thread nD τ) ↦[arg32.view.set]{fullShare} f) ∗ ⌜ScannedFrom (gates arg33 arg34 arg35 arg36 arg37 arg38 arg39 arg40 arg41 arg42 arg43 arg44 X33 X34 X35 X36 X37 X38 X39 X40 X41 X42 X43 X44) v330 v332 v334 v336 k (arg32.view.read (Elt F) f) = True⌝) ∗ ⌜acc = hst (gates arg33 arg34 arg35 arg36 arg37 arg38 arg39 arg40 arg41 arg42 arg43 arg44 X33 X34 X35 X36 X37 X38 X39 X40 X41 X42 X43 X44) v330 v332 v334 v336 k⌝)

set_option warn.classDefReducibility false in
/-- The scan's invariant, kept by every trip. -/
@[sl_loop] def loopInv (E : Set ℕ) :
    LoopInv (M := MT nD τ sig Unit (Elt F) ℕ (UR sig nD τ) ℕ) Idealize.ShloMosaic.frame (wpE (defs₀ (F := F)) Variants.none (c : Thread nD τ) none) E
      k0_t1_loop.lb k0_t1_loop.ub k0_t1_loop.st (k0_t1_ok i k0_h1) (k0_pay51 (F := F))
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 k0_h1 v326 v330 v332 v334 v336) where
  inv := inv c arg32 arg33 arg34 arg35 arg36 arg37 arg38 arg39 arg40 arg41 arg42 arg43 arg44 v330 v332 v334 v336 X33 X34 X35 X36 X37 X38 X39 X40 X41 X42 X43 X44
  step := fun k acc => by
    unfold inv k0_t1_body
    iintro ⟨H33, H34, H35, H36, H37, H38, H39, H40, H41, H42, H43, H44, ⟨%f, H32, %hf⟩, %hacc⟩
    subst hacc
    sl_exec
    sl_step
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexact H44
    isplitl [H32]
    · iexists _; isplitl [H32]; · iexact H32
      ipureintro
      refine (scannedFrom_iff _ _ _ _ _ _ _).mpr (scanned_step arg32 v330 v332 v334 v336 _ k f ((scannedFrom_iff _ _ _ _ _ _ _).mp hf) _ _ _ _ _ _ _ _ ?_ ?_ ?_ ?_)
      all_goals
        intro j
        delta loopInv.sl.r loopInv.sl.r_1 loopInv.sl.r_2 loopInv.sl.r_3
        simp only [load_row]
        first
          | exact pay53_apply ..
          | exact pay54_apply ..
          | exact pay55_apply ..
          | exact pay56_apply ..
    ipureintro
    delta loopInv.sl.r loopInv.sl.r_1 loopInv.sl.r_2 loopInv.sl.r_3
    simp only [load_row]
    rfl

end Cert.KernelIdeal.Hand
-- ==== Proof.K.Pieces.lean ====
module

public import proofs.«01_k».proof.Proof.Gen.KernelIdeal.Skeleton
public import proofs.«01_k».proof.Proof.K.First
public import proofs.«01_k».proof.Proof.K.Loop

/-! The pieces the first point stores: what its loads read, which rows each store lays into the feature buffer, and the
    gates' input rows. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Loads -/

/-- A load of one batch of the series. -/
theorem load_xslab (arg : Memref sig .tc .vmem S4x168x2048 .f32) (harg : arg.IsWhole) (x : Vec F S4x168x2048 .f32) (b : Fin 4)
    (off : Fin 3 → ℕ) (e : off = ![b.val, 0, 0]) (inb : ∀ a, off a + S1x168x2048.size a ≤ S4x168x2048.size a) :
    View.readAt (Elt F) arg.view (Rect.unit (s := S4x168x2048) off S1x168x2048.size inb).toLoadRect (harg.unread x) = xslab x b := by
  subst e
  rw [View.readAt_unit _ _ inb rfl inb, harg.read_unread]
  funext y
  unfold xslab VecWindow.window
  congr 1
  funext a
  apply Fin.ext
  have h0 : (y 0).val < 1 := (y 0).isLt
  fin_cases a
  · show b.val + 1 * (y 0).val = b.val; omega
  · show 0 + 1 * (y 1).val = (y 1).val; omega
  · show 0 + 1 * (y 2).val = (y 2).val; omega

/-- A load of one batch of the time marks. -/
theorem load_mslab (arg : Memref sig .tc .vmem S4x168x4 .f32) (harg : arg.IsWhole) (x : Vec F S4x168x4 .f32) (b : Fin 4)
    (off : Fin 3 → ℕ) (e : off = ![b.val, 0, 0]) (inb : ∀ a, off a + S1x168x4.size a ≤ S4x168x4.size a) :
    View.readAt (Elt F) arg.view (Rect.unit (s := S4x168x4) off S1x168x4.size inb).toLoadRect (harg.unread x) = mslab x b := by
  subst e
  rw [View.readAt_unit _ _ inb rfl inb, harg.read_unread]
  funext y
  unfold mslab VecWindow.window
  congr 1
  funext a
  apply Fin.ext
  have h0 : (y 0).val < 1 := (y 0).isLt
  fin_cases a
  · show b.val + 1 * (y 0).val = b.val; omega
  · show 0 + 1 * (y 1).val = (y 1).val; omega
  · show 0 + 1 * (y 2).val = (y 2).val; omega

/-- A load of one batch of the hidden rows, once the scan is done. -/
theorem load_hrows (arg : Memref sig .tc .vmem S672x64 .f32) (f : BufTy.Contents (Elt F) arg.view.ty)
    (G : Fin 12 → Vec F S168x64 .f32) (wr wz wn : Vec F S64x64 .f32) (bn : Vec F S1x64 .f32)
    (hf : Scanned G wr wz wn bn 168 (arg.view.read (Elt F) f)) (b : Fin 4)
    (off : Fin 2 → ℕ) (e : off = ![168 * b.val, 0]) (inb : ∀ a, off a + S168x64.size a ≤ S672x64.size a) :
    View.readAt (Elt F) arg.view (Rect.unit (s := S672x64) off S168x64.size inb).toLoadRect f = hrows G wr wz wn bn b := by
  subst e
  rw [View.readAt_unit _ _ inb rfl inb]
  funext y
  have h0 : (y 0).val < 168 := (y 0).isLt
  have h := hf b (y 0) (y 1) h0
  unfold hrows
  refine Eq.trans ?_ h
  unfold VecWindow.window
  congr 1
  funext a
  apply Fin.ext
  fin_cases a
  · show 168 * b.val + 1 * (y 0).val = 168 * b.val + (y 0).val; omega
  · show 0 + 1 * (y 1).val = (y 1).val; omega

/-! ## The rows of the feature buffer -/

variable (S : Fin 4 → Vec F S2048x64 .bf16) (T : Fin 4 → Vec F S168x64 .f32)

/-- The spatial rows of a batch, where they are stored. -/
theorem feat_spat (b : Fin 4) (off : Fin 2 → ℕ) (e : off = ![2304 * b.val, 0]) (inb : ∀ a, off a + S2048x64.size a ≤ S9216x65.size a)
    (x : S2048x64.Idx) : S b x = feat S T ((Rect.unit (s := S9216x65) off S2048x64.size inb).emb x) := by
  subst e
  have h0 : (x 0).val < 2048 := (x 0).isLt
  have h1 : (x 1).val < 64 := (x 1).isLt
  have e0 : (((Rect.unit (s := S9216x65) ![2304 * b.val, 0] S2048x64.size inb).emb x) 0).val = 2304 * b.val + (x 0).val := by
    show 2304 * b.val + 1 * (x 0).val = _; omega
  have e1 : (((Rect.unit (s := S9216x65) ![2304 * b.val, 0] S2048x64.size inb).emb x) 1).val = (x 1).val := by
    show 0 + 1 * (x 1).val = _; omega
  unfold feat
  rw [dif_pos (by omega), dif_pos (by omega)]
  have hb : (⟨(((Rect.unit (s := S9216x65) ![2304 * b.val, 0] S2048x64.size inb).emb x) 0).val / 2304, by omega⟩ : Fin 4) = b := Fin.ext (by show _ / 2304 = _; omega)
  rw [hb]
  congr 1
  funext a
  apply Fin.ext
  fin_cases a
  · show (x 0).val = (((Rect.unit (s := S9216x65) ![2304 * b.val, 0] S2048x64.size inb).emb x) 0).val % 2304; omega
  · show (x 1).val = (((Rect.unit (s := S9216x65) ![2304 * b.val, 0] S2048x64.size inb).emb x) 1).val; omega

/-- The temporal rows of a batch, where they are stored. -/
theorem feat_temp (b : Fin 4) (off : Fin 2 → ℕ) (e : off = ![2304 * b.val + 2048, 0]) (inb : ∀ a, off a + S168x64.size a ≤ S9216x65.size a)
    (x : S168x64.Idx) : k0_pay57 (T b) x = feat S T ((Rect.unit (s := S9216x65) off S168x64.size inb).emb x) := by
  subst e
  have h0 : (x 0).val < 168 := (x 0).isLt
  have h1 : (x 1).val < 64 := (x 1).isLt
  have e0 : (((Rect.unit (s := S9216x65) ![2304 * b.val + 2048, 0] S168x64.size inb).emb x) 0).val = 2304 * b.val + 2048 + (x 0).val := by
    show 2304 * b.val + 2048 + 1 * (x 0).val = _; omega
  have e1 : (((Rect.unit (s := S9216x65) ![2304 * b.val + 2048, 0] S168x64.size inb).emb x) 1).val = (x 1).val := by
    show 0 + 1 * (x 1).val = _; omega
  unfold feat
  rw [dif_pos (by omega), dif_neg (by omega), dif_pos (by omega)]
  have hb : (⟨(((Rect.unit (s := S9216x65) ![2304 * b.val + 2048, 0] S168x64.size inb).emb x) 0).val / 2304, by omega⟩ : Fin 4) = b := Fin.ext (by show _ / 2304 = _; omega)
  rw [hb]
  congr 1
  funext a
  apply Fin.ext
  fin_cases a
  · show (x 0).val = (((Rect.unit (s := S9216x65) ![2304 * b.val + 2048, 0] S168x64.size inb).emb x) 0).val % 2304 - 2048; omega
  · show (x 1).val = (((Rect.unit (s := S9216x65) ![2304 * b.val + 2048, 0] S168x64.size inb).emb x) 1).val; omega

/-- The rows of zeros of a batch, where they are stored. -/
theorem feat_zero (b : Fin 4) (off : Fin 2 → ℕ) (e : off = ![2304 * b.val + 2216, 0]) (inb : ∀ a, off a + S88x64.size a ≤ S9216x65.size a)
    (x : S88x64.Idx) : k0_pay15 (F := F) (ValueIdx.ix2 0 0) = feat S T ((Rect.unit (s := S9216x65) off S88x64.size inb).emb x) := by
  subst e
  have h0 : (x 0).val < 88 := (x 0).isLt
  have h1 : (x 1).val < 64 := (x 1).isLt
  have e0 : (((Rect.unit (s := S9216x65) ![2304 * b.val + 2216, 0] S88x64.size inb).emb x) 0).val = 2304 * b.val + 2216 + (x 0).val := by
    show 2304 * b.val + 2216 + 1 * (x 0).val = _; omega
  have e1 : (((Rect.unit (s := S9216x65) ![2304 * b.val + 2216, 0] S88x64.size inb).emb x) 1).val = (x 1).val := by
    show 0 + 1 * (x 1).val = _; omega
  unfold feat
  rw [dif_pos (by omega), dif_neg (by omega), dif_neg (by omega)]

/-- The column of ones of a batch, where it is stored. -/
theorem feat_one (b : Fin 4) (off : Fin 2 → ℕ) (e : off = ![2304 * b.val, 64]) (inb : ∀ a, off a + S2304x1.size a ≤ S9216x65.size a)
    (x : S2304x1.Idx) : k0_pay13 (F := F) (ValueIdx.ix2 0 0) = feat S T ((Rect.unit (s := S9216x65) off S2304x1.size inb).emb x) := by
  subst e
  have h0 : (x 0).val < 2304 := (x 0).isLt
  have h1 : (x 1).val < 1 := (x 1).isLt
  have e1 : (((Rect.unit (s := S9216x65) ![2304 * b.val, 64] S2304x1.size inb).emb x) 1).val = 64 := by
    show 64 + 1 * (x 1).val = _; omega
  unfold feat
  rw [dif_neg (by omega)]

/-- Stores that lay the feature buffer's rows, and together cover it, leave the feature buffer. -/
theorem feat_read (v : View sig .tc .vmem S9216x65 .bf16) (f : BufTy.Contents (Elt F) v.ty) (L : List (View.Piece (Elt F) S9216x65 .bf16))
    (hL : ∀ p ∈ L, ∀ x : p.1.shape.Idx, p.2 x = feat S T (p.1.emb x)) (hc : ∀ y : S9216x65.Idx, ∃ p ∈ L, y ∈ p.1.set) :
    v.read (Elt F) (v.writes (Elt F) f L) = feat S T :=
  funext fun y => View.read_writes_apply_of_pieces v f (feat S T) L hL y (hc y)

/-- An entry in a store's columns and not above its rows is below its rows, unless it is among the stored ones. -/
theorem beyond {off sz : Fin 2 → ℕ} (inb : ∀ a, off a + sz a ≤ S9216x65.size a) (y : S9216x65.Idx)
    (h : y ∉ (Rect.unit (s := S9216x65) off sz inb).set) (h0 : off 0 ≤ (y 0).val) (h1 : off 1 ≤ (y 1).val)
    (h2 : (y 1).val < off 1 + sz 1) : off 0 + sz 0 ≤ (y 0).val := by
  by_contra hlt
  refine h (Rect.mem_set_unit.mpr fun a => ?_)
  fin_cases a
  · exact ⟨h0, Nat.lt_of_not_le hlt⟩
  · exact ⟨h1, h2⟩

/-- The stores of the first point cover the feature buffer. -/
theorem feat_cover (t0 t1 t2 t3 : FVec F S168x64 .bf16) (s0 s1 s2 s3 : FVec F S2048x64 .bf16) (z0 z1 z2 z3 : FVec F S88x64 .bf16)
    (o0 o1 o2 o3 : FVec F S2304x1 .bf16) (y : S9216x65.Idx) :
    ∃ p ∈ ([⟨Rect.unit ![8960, 0] S168x64.size inb_S9216x65_S168x64_8960_0, t3⟩,
      ⟨Rect.unit ![6656, 0] S168x64.size inb_S9216x65_S168x64_6656_0, t2⟩,
      ⟨Rect.unit ![4352, 0] S168x64.size inb_S9216x65_S168x64_4352_0, t1⟩,
      ⟨Rect.unit ![2048, 0] S168x64.size inb_S9216x65_S168x64_2048_0, t0⟩,
      ⟨Rect.unit ![6912, 64] S2304x1.size inb_S9216x65_S2304x1_6912_64, o3⟩,
      ⟨Rect.unit ![9128, 0] S88x64.size inb_S9216x65_S88x64_9128_0, z3⟩,
      ⟨Rect.unit ![6912, 0] S2048x64.size inb_S9216x65_S2048x64_6912_0, s3⟩,
      ⟨Rect.unit ![4608, 64] S2304x1.size inb_S9216x65_S2304x1_4608_64, o2⟩,
      ⟨Rect.unit ![6824, 0] S88x64.size inb_S9216x65_S88x64_6824_0, z2⟩,
      ⟨Rect.unit ![4608, 0] S2048x64.size inb_S9216x65_S2048x64_4608_0, s2⟩,
      ⟨Rect.unit ![2304, 64] S2304x1.size inb_S9216x65_S2304x1_2304_64, o1⟩,
      ⟨Rect.unit ![4520, 0] S88x64.size inb_S9216x65_S88x64_4520_0, z1⟩,
      ⟨Rect.unit ![2304, 0] S2048x64.size inb_S9216x65_S2048x64_2304_0, s1⟩,
      ⟨Rect.unit ![0, 64] S2304x1.size inb_S9216x65_S2304x1_0_64, o0⟩,
      ⟨Rect.unit ![2216, 0] S88x64.size inb_S9216x65_S88x64_2216_0, z0⟩,
      ⟨Rect.unit ![0, 0] S2048x64.size inb_S9216x65_S2048x64_0_0, s0⟩] : List (View.Piece (Elt F) S9216x65 .bf16)), y ∈ p.1.set := by
  by_contra hn
  have hn : ∀ p ∈ ([⟨Rect.unit ![8960, 0] S168x64.size inb_S9216x65_S168x64_8960_0, t3⟩,
      ⟨Rect.unit ![6656, 0] S168x64.size inb_S9216x65_S168x64_6656_0, t2⟩,
      ⟨Rect.unit ![4352, 0] S168x64.size inb_S9216x65_S168x64_4352_0, t1⟩,
      ⟨Rect.unit ![2048, 0] S168x64.size inb_S9216x65_S168x64_2048_0, t0⟩,
      ⟨Rect.unit ![6912, 64] S2304x1.size inb_S9216x65_S2304x1_6912_64, o3⟩,
      ⟨Rect.unit ![9128, 0] S88x64.size inb_S9216x65_S88x64_9128_0, z3⟩,
      ⟨Rect.unit ![6912, 0] S2048x64.size inb_S9216x65_S2048x64_6912_0, s3⟩,
      ⟨Rect.unit ![4608, 64] S2304x1.size inb_S9216x65_S2304x1_4608_64, o2⟩,
      ⟨Rect.unit ![6824, 0] S88x64.size inb_S9216x65_S88x64_6824_0, z2⟩,
      ⟨Rect.unit ![4608, 0] S2048x64.size inb_S9216x65_S2048x64_4608_0, s2⟩,
      ⟨Rect.unit ![2304, 64] S2304x1.size inb_S9216x65_S2304x1_2304_64, o1⟩,
      ⟨Rect.unit ![4520, 0] S88x64.size inb_S9216x65_S88x64_4520_0, z1⟩,
      ⟨Rect.unit ![2304, 0] S2048x64.size inb_S9216x65_S2048x64_2304_0, s1⟩,
      ⟨Rect.unit ![0, 64] S2304x1.size inb_S9216x65_S2304x1_0_64, o0⟩,
      ⟨Rect.unit ![2216, 0] S88x64.size inb_S9216x65_S88x64_2216_0, z0⟩,
      ⟨Rect.unit ![0, 0] S2048x64.size inb_S9216x65_S2048x64_0_0, s0⟩] : List (View.Piece (Elt F) S9216x65 .bf16)), y ∉ p.1.set := fun p hp hy => hn ⟨p, hp, hy⟩
  obtain ⟨a3, hn⟩ := List.forall_mem_cons.mp hn
  obtain ⟨a2, hn⟩ := List.forall_mem_cons.mp hn
  obtain ⟨a1, hn⟩ := List.forall_mem_cons.mp hn
  obtain ⟨a0, hn⟩ := List.forall_mem_cons.mp hn
  obtain ⟨d3, hn⟩ := List.forall_mem_cons.mp hn
  obtain ⟨c3, hn⟩ := List.forall_mem_cons.mp hn
  obtain ⟨b3, hn⟩ := List.forall_mem_cons.mp hn
  obtain ⟨d2, hn⟩ := List.forall_mem_cons.mp hn
  obtain ⟨c2, hn⟩ := List.forall_mem_cons.mp hn
  obtain ⟨b2, hn⟩ := List.forall_mem_cons.mp hn
  obtain ⟨d1, hn⟩ := List.forall_mem_cons.mp hn
  obtain ⟨c1, hn⟩ := List.forall_mem_cons.mp hn
  obtain ⟨b1, hn⟩ := List.forall_mem_cons.mp hn
  obtain ⟨d0, hn⟩ := List.forall_mem_cons.mp hn
  obtain ⟨c0, hn⟩ := List.forall_mem_cons.mp hn
  obtain ⟨b0, hn⟩ := List.forall_mem_cons.mp hn
  have h0 : (y 0).val < 9216 := (y 0).isLt
  have h1 : (y 1).val < 65 := (y 1).isLt
  by_cases hc : (y 1).val < 64
  · have l := Nat.zero_le (y 1).val
    have u : (y 1).val < 0 + 64 := by omega
    have e : 2048 ≤ (y 0).val := beyond inb_S9216x65_S2048x64_0_0 y b0 (Nat.zero_le _) l u
    have e : 2216 ≤ (y 0).val := beyond inb_S9216x65_S168x64_2048_0 y a0 e l u
    have e : 2304 ≤ (y 0).val := beyond inb_S9216x65_S88x64_2216_0 y c0 e l u
    have e : 4352 ≤ (y 0).val := beyond inb_S9216x65_S2048x64_2304_0 y b1 e l u
    have e : 4520 ≤ (y 0).val := beyond inb_S9216x65_S168x64_4352_0 y a1 e l u
    have e : 4608 ≤ (y 0).val := beyond inb_S9216x65_S88x64_4520_0 y c1 e l u
    have e : 6656 ≤ (y 0).val := beyond inb_S9216x65_S2048x64_4608_0 y b2 e l u
    have e : 6824 ≤ (y 0).val := beyond inb_S9216x65_S168x64_6656_0 y a2 e l u
    have e : 6912 ≤ (y 0).val := beyond inb_S9216x65_S88x64_6824_0 y c2 e l u
    have e : 8960 ≤ (y 0).val := beyond inb_S9216x65_S2048x64_6912_0 y b3 e l u
    have e : 9128 ≤ (y 0).val := beyond inb_S9216x65_S168x64_8960_0 y a3 e l u
    have e : 9216 ≤ (y 0).val := beyond inb_S9216x65_S88x64_9128_0 y c3 e l u
    omega
  · have l : 64 ≤ (y 1).val := by omega
    have e : 2304 ≤ (y 0).val := beyond inb_S9216x65_S2304x1_0_64 y d0 (Nat.zero_le _) l h1
    have e : 4608 ≤ (y 0).val := beyond inb_S9216x65_S2304x1_2304_64 y d1 e l h1
    have e : 6912 ≤ (y 0).val := beyond inb_S9216x65_S2304x1_4608_64 y d2 e l h1
    have e : 9216 ≤ (y 0).val := beyond inb_S9216x65_S2304x1_6912_64 y d3 e l h1
    omega

/-! ## The payloads -/

variable (x : Vec F S4x168x2048 .f32) (mk : Vec F S4x168x4 .f32) (se : Vec F S2048x32 .f32) (w1x : Vec F S168x64 .f32)
  (w1s : Vec F S32x64 .f32) (b1 : Vec F S1x64 .f32) (w2 : Vec F S64x64 .f32) (b2 : Vec F S1x64 .f32) (tm : Vec F S168x33 .f32)
  (wx : Vec F S2048x64 .f32) (wm : Vec F S4x64 .f32) (te : Vec F S33x64 .f32) (b : Fin 4)

theorem pay14_eq : k0_pay14 se w1s b1 w2 b2 (xslab x b) w1x = spat x se w1x w1s b1 w2 b2 b := rfl
theorem pay21_eq : k0_pay21 (k0_pay11 se w1s b1) w2 (k0_pay12 b2) (xslab x b) w1x = spat x se w1x w1s b1 w2 b2 b := rfl
theorem pay25_eq : k0_pay25 w2 (k0_pay12 b2) (k0_pay24 (k0_pay11 se w1s b1) (xslab x b) w1x) = spat x se w1x w1s b1 w2 b2 b := rfl
theorem pay30_eq : k0_pay30 (k0_pay28 tm te) (k0_pay29 (xslab x b) wx) (mslab mk b) wm = gi x mk tm wx wm te b := rfl
theorem pay33_eq : k0_pay33 (k0_pay28 tm te) (k0_pay32 (xslab x b) wx) (mslab mk b) wm = gi x mk tm wx wm te b := rfl
theorem pay34_eq : k0_pay34 (k0_pay28 tm te) (xslab x b) wx (mslab mk b) wm = gi x mk tm wx wm te b := rfl
theorem pay36_eq : k0_pay36 (k0_pay35 tm te) (xslab x b) wx (mslab mk b) wm = gi x mk tm wx wm te b := rfl
theorem pay37_eq : k0_pay37 (k0_pay35 tm te) (xslab x b) wx (mslab mk b) wm = gi x mk tm wx wm te b := rfl
theorem pay38_eq : k0_pay38 (k0_pay35 tm te) (xslab x b) wx (mslab mk b) wm = gi x mk tm wx wm te b := rfl
theorem pay39_eq : k0_pay39 (k0_pay35 tm te) (xslab x b) wx (mslab mk b) wm = gi x mk tm wx wm te b := rfl
theorem pay42_eq : k0_pay42 (k0_pay40 tm) te (xslab x b) wx (mslab mk b) wm = gi x mk tm wx wm te b := rfl
theorem pay44_eq : k0_pay44 (k0_pay43 (k0_pay40 tm) te (xslab x b) wx (mslab mk b) wm) = gi x mk tm wx wm te b := rfl
theorem pay47_eq : k0_pay47 (k0_pay46 (k0_pay41 (k0_pay40 tm) te) (xslab x b) wx (mslab mk b) wm) = gi x mk tm wx wm te b := rfl
theorem pay45_eq : k0_pay45 (k0_pay41 (k0_pay40 tm) te) (xslab x b) wx (mslab mk b) wm = gi x mk tm wx wm te b := rfl

theorem pay16_apply (y : S88x64.Idx) : k0_pay16 (F := F) k0_pay15 y = k0_pay15 (F := F) (ValueIdx.ix2 0 0) := by
  unfold k0_pay16; rw [shapeCast_self]; rfl
theorem pay19_apply (y : S88x64.Idx) : k0_pay19 (F := F) y = k0_pay15 (F := F) (ValueIdx.ix2 0 0) := by
  unfold k0_pay19; rw [shapeCast_self]; rfl
theorem pay22_apply (y : S88x64.Idx) : k0_pay22 (F := F) y = k0_pay15 (F := F) (ValueIdx.ix2 0 0) := by
  unfold k0_pay22; rw [shapeCast_self]; rfl
theorem pay26_apply (y : S88x64.Idx) : k0_pay26 (F := F) y = k0_pay15 (F := F) (ValueIdx.ix2 0 0) := by
  unfold k0_pay26; rw [shapeCast_self]; rfl
theorem pay17_apply (y : S2304x1.Idx) : k0_pay17 (F := F) k0_pay13 y = k0_pay13 (F := F) (ValueIdx.ix2 0 0) := by
  unfold k0_pay17; rw [shapeCast_self]; rfl
theorem pay20_apply (y : S2304x1.Idx) : k0_pay20 (F := F) k0_pay13 y = k0_pay13 (F := F) (ValueIdx.ix2 0 0) := by
  unfold k0_pay20; rw [shapeCast_self]; rfl
theorem pay23_apply (y : S2304x1.Idx) : k0_pay23 (F := F) k0_pay13 y = k0_pay13 (F := F) (ValueIdx.ix2 0 0) := by
  unfold k0_pay23; rw [shapeCast_self]; rfl
theorem pay27_apply (y : S2304x1.Idx) : k0_pay27 (F := F) k0_pay13 y = k0_pay13 (F := F) (ValueIdx.ix2 0 0) := by
  unfold k0_pay27; rw [shapeCast_self]; rfl

end Cert.KernelIdeal.Hand
-- ==== Proof.K.Start.lean ====
module

public import proofs.«01_k».proof.Proof.K.Pieces
public import proofs.«01_k».proof.Proof.Gen.KernelIdeal.Frame
public import proofs.«01_k».proof.Proof.K.First
public import proofs.«01_k».proof.Proof.K.Loop

/-! What the kernel body does at the first point: it fills the feature buffer with both encoders' rows of all batches,
    then does the first layer of batch 0. -/

@[expose] public section

set_option maxRecDepth 16384
set_option maxHeartbeats 8000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S4x168x2048 .f32) (harg2 : arg2.IsWhole) (arg3 : Memref sig .tc .vmem S4x168x4 .f32) (harg3 : arg3.IsWhole)
  (arg4 : Memref sig .tc .vmem S2048x32 .f32) (harg4 : arg4.IsWhole) (arg5 : Memref sig .tc .vmem S168x64 .f32) (harg5 : arg5.IsWhole)
  (arg6 : Memref sig .tc .vmem S32x64 .f32) (harg6 : arg6.IsWhole) (arg7 : Memref sig .tc .vmem S1x64 .f32) (harg7 : arg7.IsWhole)
  (arg8 : Memref sig .tc .vmem S64x64 .f32) (harg8 : arg8.IsWhole) (arg9 : Memref sig .tc .vmem S1x64 .f32) (harg9 : arg9.IsWhole)
  (arg10 : Memref sig .tc .vmem S168x33 .f32) (harg10 : arg10.IsWhole) (arg11 : Memref sig .tc .vmem S2048x64 .f32) (harg11 : arg11.IsWhole)
  (arg12 : Memref sig .tc .vmem S2048x64 .f32) (harg12 : arg12.IsWhole) (arg13 : Memref sig .tc .vmem S2048x64 .f32) (harg13 : arg13.IsWhole)
  (arg14 : Memref sig .tc .vmem S4x64 .f32) (harg14 : arg14.IsWhole) (arg15 : Memref sig .tc .vmem S4x64 .f32) (harg15 : arg15.IsWhole)
  (arg16 : Memref sig .tc .vmem S4x64 .f32) (harg16 : arg16.IsWhole) (arg17 : Memref sig .tc .vmem S33x64 .f32) (harg17 : arg17.IsWhole)
  (arg18 : Memref sig .tc .vmem S33x64 .f32) (harg18 : arg18.IsWhole) (arg19 : Memref sig .tc .vmem S33x64 .f32) (harg19 : arg19.IsWhole)
  (arg20 : Memref sig .tc .vmem S64x64 .f32) (harg20 : arg20.IsWhole) (arg21 : Memref sig .tc .vmem S64x64 .f32) (harg21 : arg21.IsWhole)
  (arg22 : Memref sig .tc .vmem S64x64 .f32) (harg22 : arg22.IsWhole) (arg23 : Memref sig .tc .vmem S1x64 .f32) (harg23 : arg23.IsWhole)
  (arg24 : Memref sig .tc .vmem S64x64 .f32) (harg24 : arg24.IsWhole) (arg25 : Memref sig .tc .vmem S1x64 .f32) (harg25 : arg25.IsWhole)
  (arg26 : Memref sig .tc .vmem S64x64 .f32) (harg26 : arg26.IsWhole) (arg27 : Memref sig .tc .vmem S1x64 .f32) (harg27 : arg27.IsWhole)
  (arg28 : Memref sig .tc .vmem S1x2304x64 .f32) (harg28 : arg28.IsWhole) (arg29 : Memref sig .tc .vmem S9216x65 .bf16) (harg29 : arg29.IsWhole)
  (arg30 : Memref sig .tc .vmem S2304x65 .bf16) (harg30 : arg30.IsWhole) (arg31 : Memref sig .tc .vmem S2304x2304 .bf16) (harg31 : arg31.IsWhole)
  (arg32 : Memref sig .tc .vmem S672x64 .f32) (harg32 : arg32.IsWhole) (arg33 : Memref sig .tc .vmem S168x64 .f32) (harg33 : arg33.IsWhole)
  (arg34 : Memref sig .tc .vmem S168x64 .f32) (harg34 : arg34.IsWhole) (arg35 : Memref sig .tc .vmem S168x64 .f32) (harg35 : arg35.IsWhole)
  (arg36 : Memref sig .tc .vmem S168x64 .f32) (harg36 : arg36.IsWhole) (arg37 : Memref sig .tc .vmem S168x64 .f32) (harg37 : arg37.IsWhole)
  (arg38 : Memref sig .tc .vmem S168x64 .f32) (harg38 : arg38.IsWhole) (arg39 : Memref sig .tc .vmem S168x64 .f32) (harg39 : arg39.IsWhole)
  (arg40 : Memref sig .tc .vmem S168x64 .f32) (harg40 : arg40.IsWhole) (arg41 : Memref sig .tc .vmem S168x64 .f32) (harg41 : arg41.IsWhole)
  (arg42 : Memref sig .tc .vmem S168x64 .f32) (harg42 : arg42.IsWhole) (arg43 : Memref sig .tc .vmem S168x64 .f32) (harg43 : arg43.IsWhole)
  (arg44 : Memref sig .tc .vmem S168x64 .f32) (harg44 : arg44.IsWhole)

/-- The body at the first point. -/
theorem run_start (hc0 : cond0_0 i) (hc1 : cond0_1 i) (hc2 : ¬ cond0_2 i)
    (x : Vec F S4x168x2048 .f32)
    (mk : Vec F S4x168x4 .f32)
    (se : Vec F S2048x32 .f32)
    (w1x : Vec F S168x64 .f32)
    (w1s : Vec F S32x64 .f32)
    (b1 : Vec F S1x64 .f32)
    (w2 : Vec F S64x64 .f32)
    (b2 : Vec F S1x64 .f32)
    (tm : Vec F S168x33 .f32)
    (wxr : Vec F S2048x64 .f32)
    (wxz : Vec F S2048x64 .f32)
    (wxn : Vec F S2048x64 .f32)
    (wmr : Vec F S4x64 .f32)
    (wmz : Vec F S4x64 .f32)
    (wmn : Vec F S4x64 .f32)
    (ter : Vec F S33x64 .f32)
    (tez : Vec F S33x64 .f32)
    (ten : Vec F S33x64 .f32)
    (whr : Vec F S64x64 .f32)
    (whz : Vec F S64x64 .f32)
    (whn : Vec F S64x64 .f32)
    (bhn : Vec F S1x64 .f32)
    (w : Vec F S64x64 .f32)
    (b : Vec F S1x64 .f32)
    (E : Set ℕ) (K : PUnit → sProp 𝕄) :
    iprop(owns (c : Thread nD τ) arg2 fullShare x ∗ owns (c : Thread nD τ) arg3 fullShare mk ∗ owns (c : Thread nD τ) arg4 fullShare se ∗ owns (c : Thread nD τ) arg5 fullShare w1x ∗ owns (c : Thread nD τ) arg6 fullShare w1s ∗ owns (c : Thread nD τ) arg7 fullShare b1 ∗ owns (c : Thread nD τ) arg8 fullShare w2 ∗ owns (c : Thread nD τ) arg9 fullShare b2 ∗ owns (c : Thread nD τ) arg10 fullShare tm ∗ owns (c : Thread nD τ) arg11 fullShare wxr ∗ owns (c : Thread nD τ) arg12 fullShare wxz ∗ owns (c : Thread nD τ) arg13 fullShare wxn ∗ owns (c : Thread nD τ) arg14 fullShare wmr ∗ owns (c : Thread nD τ) arg15 fullShare wmz ∗ owns (c : Thread nD τ) arg16 fullShare wmn ∗ owns (c : Thread nD τ) arg17 fullShare ter ∗ owns (c : Thread nD τ) arg18 fullShare tez ∗ owns (c : Thread nD τ) arg19 fullShare ten ∗ owns (c : Thread nD τ) arg20 fullShare whr ∗ owns (c : Thread nD τ) arg21 fullShare whz ∗ owns (c : Thread nD τ) arg22 fullShare whn ∗ owns (c : Thread nD τ) arg23 fullShare bhn ∗ owns (c : Thread nD τ) arg24 fullShare w ∗ owns (c : Thread nD τ) arg25 fullShare b
      ∗ (∃ d, owns (c : Thread nD τ) arg29 fullShare d) ∗ (∃ d, owns (c : Thread nD τ) arg30 fullShare d) ∗ (∃ d, owns (c : Thread nD τ) arg31 fullShare d) ∗ (∃ d, owns (c : Thread nD τ) arg28 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d)
      ∗ (iprop(owns (c : Thread nD τ) arg2 fullShare x ∗ owns (c : Thread nD τ) arg3 fullShare mk ∗ owns (c : Thread nD τ) arg4 fullShare se ∗ owns (c : Thread nD τ) arg5 fullShare w1x ∗ owns (c : Thread nD τ) arg6 fullShare w1s ∗ owns (c : Thread nD τ) arg7 fullShare b1 ∗ owns (c : Thread nD τ) arg8 fullShare w2 ∗ owns (c : Thread nD τ) arg9 fullShare b2 ∗ owns (c : Thread nD τ) arg10 fullShare tm ∗ owns (c : Thread nD τ) arg11 fullShare wxr ∗ owns (c : Thread nD τ) arg12 fullShare wxz ∗ owns (c : Thread nD τ) arg13 fullShare wxn ∗ owns (c : Thread nD τ) arg14 fullShare wmr ∗ owns (c : Thread nD τ) arg15 fullShare wmz ∗ owns (c : Thread nD τ) arg16 fullShare wmn ∗ owns (c : Thread nD τ) arg17 fullShare ter ∗ owns (c : Thread nD τ) arg18 fullShare tez ∗ owns (c : Thread nD τ) arg19 fullShare ten ∗ owns (c : Thread nD τ) arg20 fullShare whr ∗ owns (c : Thread nD τ) arg21 fullShare whz ∗ owns (c : Thread nD τ) arg22 fullShare whn ∗ owns (c : Thread nD τ) arg23 fullShare bhn ∗ owns (c : Thread nD τ) arg24 fullShare w ∗ owns (c : Thread nD τ) arg25 fullShare b
          ∗ (∃ X, owns (c : Thread nD τ) arg29 fullShare X ∗ ⌜X = (feat (spat x se w1x w1s b1 w2 b2) (hrows (gis x mk tm wxr wxz wxn wmr wmz wmn ter tez ten) whr whz whn bhn))⌝
            ∗ owns (c : Thread nD τ) arg30 fullShare (aug (k0_pay63 (blk64 X (i 0)) (blk65 X (i 0)) w b))
            ∗ owns (c : Thread nD τ) arg31 fullShare (k0_pay60 (blk64 X (i 0)))
            ∗ owns (c : Thread nD τ) arg28 fullShare (k0_pay4 (k0_pay62 (blk64 X (i 0)) (blk65 X (i 0)) w b)))
          ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d)) -∗ K ⟨⟩))
    ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0__fused_body_eq_skeleton]; unfold cc0__fused_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d29, %f29, %hf29, H29⟩, ⟨%d30, %f30, %hf30, H30⟩, ⟨%d31, %f31, %hf31, H31⟩, ⟨%d28, %f28, %hf28, H28⟩, ⟨%d32, %f32, %hf32, H32⟩, ⟨%d33, %f33, %hf33, H33⟩, ⟨%d34, %f34, %hf34, H34⟩, ⟨%d35, %f35, %hf35, H35⟩, ⟨%d36, %f36, %hf36, H36⟩, ⟨%d37, %f37, %hf37, H37⟩, ⟨%d38, %f38, %hf38, H38⟩, ⟨%d39, %f39, %hf39, H39⟩, ⟨%d40, %f40, %hf40, H40⟩, ⟨%d41, %f41, %hf41, H41⟩, ⟨%d42, %f42, %hf42, H42⟩, ⟨%d43, %f43, %hf43, H43⟩, ⟨%d44, %f44, %hf44, H44⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg21.eq_unread hf21
  obtain rfl := harg22.eq_unread hf22
  obtain rfl := harg23.eq_unread hf23
  obtain rfl := harg24.eq_unread hf24
  obtain rfl := harg25.eq_unread hf25
  sl_exec (disch := first | sl_exact hc0 | sl_exact hc1 | sl_exact hc2)
  have g33 : arg33.view.read (Elt F) (arg33.view.writes (Elt F) arg33.view.junk (run_start.sl.H33_1 c arg2 harg2 arg3 harg3 arg10 harg10 arg11 harg11 arg14 harg14 arg17 harg17 x mk tm wxr wmr ter)) = gi x mk tm wxr wmr ter 0 := by
    delta run_start.sl.H33_1
    rw [View.read_writes_full]
    delta run_start.sl.r_4 run_start.sl.r_5
    rw [load_xslab arg2 harg2 x 0 ![0, 0, 0] rfl, load_mslab arg3 harg3 mk 0 ![0, 0, 0] rfl, load_all arg10 harg10 tm,
      load_all arg11 harg11 wxr, load_all arg14 harg14 wmr, load_all arg17 harg17 ter]
    exact pay30_eq x mk tm wxr wmr ter 0
  have g34 : arg34.view.read (Elt F) (arg34.view.writes (Elt F) arg34.view.junk (run_start.sl.H34_1 c arg2 harg2 arg3 harg3 arg10 harg10 arg11 harg11 arg14 harg14 arg17 harg17 x mk tm wxr wmr ter)) = gi x mk tm wxr wmr ter 1 := by
    delta run_start.sl.H34_1
    rw [View.read_writes_full]
    delta run_start.sl.r_4
    rw [load_xslab arg2 harg2 x 1 ![1, 0, 0] rfl, load_mslab arg3 harg3 mk 1 ![1, 0, 0] rfl, load_all arg10 harg10 tm,
      load_all arg11 harg11 wxr, load_all arg14 harg14 wmr, load_all arg17 harg17 ter]
    rfl
  have g35 : arg35.view.read (Elt F) (arg35.view.writes (Elt F) arg35.view.junk (run_start.sl.H35_1 c arg2 harg2 arg3 harg3 arg10 harg10 arg11 harg11 arg14 harg14 arg17 harg17 x mk tm wxr wmr ter)) = gi x mk tm wxr wmr ter 2 := by
    delta run_start.sl.H35_1
    rw [View.read_writes_full]
    delta run_start.sl.r_4 run_start.sl.r_6
    rw [load_xslab arg2 harg2 x 2 ![2, 0, 0] rfl, load_mslab arg3 harg3 mk 2 ![2, 0, 0] rfl, load_all arg10 harg10 tm,
      load_all arg11 harg11 wxr, load_all arg14 harg14 wmr, load_all arg17 harg17 ter]
    exact pay33_eq x mk tm wxr wmr ter 2
  have g36 : arg36.view.read (Elt F) (arg36.view.writes (Elt F) arg36.view.junk (run_start.sl.H36_1 c arg2 harg2 arg3 harg3 arg10 harg10 arg11 harg11 arg14 harg14 arg17 harg17 x mk tm wxr wmr ter)) = gi x mk tm wxr wmr ter 3 := by
    delta run_start.sl.H36_1
    rw [View.read_writes_full]
    delta run_start.sl.r_4
    rw [load_xslab arg2 harg2 x 3 ![3, 0, 0] rfl, load_mslab arg3 harg3 mk 3 ![3, 0, 0] rfl, load_all arg10 harg10 tm,
      load_all arg11 harg11 wxr, load_all arg14 harg14 wmr, load_all arg17 harg17 ter]
    exact pay34_eq x mk tm wxr wmr ter 3
  have g37 : arg37.view.read (Elt F) (arg37.view.writes (Elt F) arg37.view.junk (run_start.sl.H37_1 c arg2 harg2 arg3 harg3 arg10 harg10 arg12 harg12 arg15 harg15 arg18 harg18 x mk tm wxz wmz tez)) = gi x mk tm wxz wmz tez 0 := by
    delta run_start.sl.H37_1
    rw [View.read_writes_full]
    delta run_start.sl.r_7 run_start.sl.r_8
    rw [load_xslab arg2 harg2 x 0 ![0, 0, 0] rfl, load_mslab arg3 harg3 mk 0 ![0, 0, 0] rfl, load_all arg10 harg10 tm,
      load_all arg12 harg12 wxz, load_all arg15 harg15 wmz, load_all arg18 harg18 tez]
    exact pay36_eq x mk tm wxz wmz tez 0
  have g38 : arg38.view.read (Elt F) (arg38.view.writes (Elt F) arg38.view.junk (run_start.sl.H38_1 c arg2 harg2 arg3 harg3 arg10 harg10 arg12 harg12 arg15 harg15 arg18 harg18 x mk tm wxz wmz tez)) = gi x mk tm wxz wmz tez 1 := by
    delta run_start.sl.H38_1
    rw [View.read_writes_full]
    delta run_start.sl.r_7
    rw [load_xslab arg2 harg2 x 1 ![1, 0, 0] rfl, load_mslab arg3 harg3 mk 1 ![1, 0, 0] rfl, load_all arg10 harg10 tm,
      load_all arg12 harg12 wxz, load_all arg15 harg15 wmz, load_all arg18 harg18 tez]
    exact pay37_eq x mk tm wxz wmz tez 1
  have g39 : arg39.view.read (Elt F) (arg39.view.writes (Elt F) arg39.view.junk (run_start.sl.H39_1 c arg2 harg2 arg3 harg3 arg10 harg10 arg12 harg12 arg15 harg15 arg18 harg18 x mk tm wxz wmz tez)) = gi x mk tm wxz wmz tez 2 := by
    delta run_start.sl.H39_1
    rw [View.read_writes_full]
    delta run_start.sl.r_7 run_start.sl.r_9
    rw [load_xslab arg2 harg2 x 2 ![2, 0, 0] rfl, load_mslab arg3 harg3 mk 2 ![2, 0, 0] rfl, load_all arg10 harg10 tm,
      load_all arg12 harg12 wxz, load_all arg15 harg15 wmz, load_all arg18 harg18 tez]
    exact pay38_eq x mk tm wxz wmz tez 2
  have g40 : arg40.view.read (Elt F) (arg40.view.writes (Elt F) arg40.view.junk (run_start.sl.H40_1 c arg2 harg2 arg3 harg3 arg10 harg10 arg12 harg12 arg15 harg15 arg18 harg18 x mk tm wxz wmz tez)) = gi x mk tm wxz wmz tez 3 := by
    delta run_start.sl.H40_1
    rw [View.read_writes_full]
    delta run_start.sl.r_7
    rw [load_xslab arg2 harg2 x 3 ![3, 0, 0] rfl, load_mslab arg3 harg3 mk 3 ![3, 0, 0] rfl, load_all arg10 harg10 tm,
      load_all arg12 harg12 wxz, load_all arg15 harg15 wmz, load_all arg18 harg18 tez]
    exact pay39_eq x mk tm wxz wmz tez 3
  have g41 : arg41.view.read (Elt F) (arg41.view.writes (Elt F) arg41.view.junk (run_start.sl.H41_1 c arg2 harg2 arg3 harg3 arg10 harg10 arg13 harg13 arg16 harg16 arg19 harg19 x mk tm wxn wmn ten)) = gi x mk tm wxn wmn ten 0 := by
    delta run_start.sl.H41_1
    rw [View.read_writes_full]
    delta run_start.sl.r_10
    rw [load_xslab arg2 harg2 x 0 ![0, 0, 0] rfl, load_mslab arg3 harg3 mk 0 ![0, 0, 0] rfl, load_all arg10 harg10 tm,
      load_all arg13 harg13 wxn, load_all arg16 harg16 wmn, load_all arg19 harg19 ten]
    exact pay42_eq x mk tm wxn wmn ten 0
  have g42 : arg42.view.read (Elt F) (arg42.view.writes (Elt F) arg42.view.junk (run_start.sl.H42_1 c arg2 harg2 arg3 harg3 arg10 harg10 arg13 harg13 arg16 harg16 arg19 harg19 x mk tm wxn wmn ten)) = gi x mk tm wxn wmn ten 1 := by
    delta run_start.sl.H42_1
    rw [View.read_writes_full]
    delta run_start.sl.r_12 run_start.sl.r_10
    rw [load_xslab arg2 harg2 x 1 ![1, 0, 0] rfl, load_mslab arg3 harg3 mk 1 ![1, 0, 0] rfl, load_all arg10 harg10 tm,
      load_all arg13 harg13 wxn, load_all arg16 harg16 wmn, load_all arg19 harg19 ten]
    exact pay44_eq x mk tm wxn wmn ten 1
  have g43 : arg43.view.read (Elt F) (arg43.view.writes (Elt F) arg43.view.junk (run_start.sl.H43_1 c arg2 harg2 arg3 harg3 arg10 harg10 arg13 harg13 arg16 harg16 arg19 harg19 x mk tm wxn wmn ten)) = gi x mk tm wxn wmn ten 2 := by
    delta run_start.sl.H43_1
    rw [View.read_writes_full]
    delta run_start.sl.r_11 run_start.sl.r_10
    rw [load_xslab arg2 harg2 x 2 ![2, 0, 0] rfl, load_mslab arg3 harg3 mk 2 ![2, 0, 0] rfl, load_all arg10 harg10 tm,
      load_all arg13 harg13 wxn, load_all arg16 harg16 wmn, load_all arg19 harg19 ten]
    exact pay45_eq x mk tm wxn wmn ten 2
  have g44 : arg44.view.read (Elt F) (arg44.view.writes (Elt F) arg44.view.junk (run_start.sl.H44_1 c arg2 harg2 arg3 harg3 arg10 harg10 arg13 harg13 arg16 harg16 arg19 harg19 x mk tm wxn wmn ten)) = gi x mk tm wxn wmn ten 3 := by
    delta run_start.sl.H44_1
    rw [View.read_writes_full]
    delta run_start.sl.r_13 run_start.sl.r_11 run_start.sl.r_10
    rw [load_xslab arg2 harg2 x 3 ![3, 0, 0] rfl, load_mslab arg3 harg3 mk 3 ![3, 0, 0] rfl, load_all arg10 harg10 tm,
      load_all arg13 harg13 wxn, load_all arg16 harg16 wmn, load_all arg19 harg19 ten]
    exact pay47_eq x mk tm wxn wmn ten 3
  have hsc : Scanned (gis x mk tm wxr wxz wxn wmr wmz wmn ter tez ten) whr whz whn bhn 168 (arg32.view.read (Elt F) fL0) := by
    have h := (scannedFrom_iff _ _ _ _ _ _ _).mp hL13
    unfold gates at h
    rw [g33, g34, g35, g36, g37, g38, g39, g40, g41, g42, g43, g44, load_all arg20 harg20 whr, load_all arg21 harg21 whz,
      load_all arg22 harg22 whn, load_all arg23 harg23 bhn] at h
    exact h
  have hfeat : arg29.view.read (Elt F) (arg29.view.writes (Elt F) arg29.view.junk (run_start.sl.H29_16 c arg2 harg2 arg4 harg4 arg5 harg5 arg6 harg6 arg7 harg7 arg8 harg8 arg9 harg9 arg32 x se w1x w1s b1 w2 b2 fL0)) = feat (spat x se w1x w1s b1 w2 b2) (hrows (gis x mk tm wxr wxz wxn wmr wmz wmn ter tez ten) whr whz whn bhn) := by
    refine feat_read _ _ _ _ _ ?_ (feat_cover _ _ _ _ _ _ _ _ _ _ _ _ _ _ _ _)
    delta run_start.sl.H29_16 run_start.sl.r_3 run_start.sl.r run_start.sl.r_1 run_start.sl.r_2
    rw [load_all arg4 harg4 se, load_all arg6 harg6 w1s, load_all arg7 harg7 b1, load_all arg8 harg8 w2, load_all arg9 harg9 b2, load_all arg5 harg5 w1x,
      load_xslab arg2 harg2 x 0 ![0, 0, 0] rfl, load_xslab arg2 harg2 x 1 ![1, 0, 0] rfl, load_xslab arg2 harg2 x 2 ![2, 0, 0] rfl, load_xslab arg2 harg2 x 3 ![3, 0, 0] rfl,
      load_hrows arg32 fL0 (gis x mk tm wxr wxz wxn wmr wmz wmn ter tez ten) whr whz whn bhn hsc 0 ![0, 0] rfl, load_hrows arg32 fL0 (gis x mk tm wxr wxz wxn wmr wmz wmn ter tez ten) whr whz whn bhn hsc 1 ![168, 0] rfl,
      load_hrows arg32 fL0 (gis x mk tm wxr wxz wxn wmr wmz wmn ter tez ten) whr whz whn bhn hsc 2 ![336, 0] rfl, load_hrows arg32 fL0 (gis x mk tm wxr wxz wxn wmr wmz wmn ter tez ten) whr whz whn bhn hsc 3 ![504, 0] rfl]
    refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩⟩⟩⟩⟩⟩⟩⟩⟩
    · exact fun y => feat_temp (spat x se w1x w1s b1 w2 b2) (hrows (gis x mk tm wxr wxz wxn wmr wmz wmn ter tez ten) whr whz whn bhn) 3 ![8960, 0] rfl inb_S9216x65_S168x64_8960_0 y
    · exact fun y => feat_temp (spat x se w1x w1s b1 w2 b2) (hrows (gis x mk tm wxr wxz wxn wmr wmz wmn ter tez ten) whr whz whn bhn) 2 ![6656, 0] rfl inb_S9216x65_S168x64_6656_0 y
    · exact fun y => feat_temp (spat x se w1x w1s b1 w2 b2) (hrows (gis x mk tm wxr wxz wxn wmr wmz wmn ter tez ten) whr whz whn bhn) 1 ![4352, 0] rfl inb_S9216x65_S168x64_4352_0 y
    · exact fun y => feat_temp (spat x se w1x w1s b1 w2 b2) (hrows (gis x mk tm wxr wxz wxn wmr wmz wmn ter tez ten) whr whz whn bhn) 0 ![2048, 0] rfl inb_S9216x65_S168x64_2048_0 y
    · exact fun y => (pay27_apply y).trans (feat_one (spat x se w1x w1s b1 w2 b2) (hrows (gis x mk tm wxr wxz wxn wmr wmz wmn ter tez ten) whr whz whn bhn) 3 ![6912, 64] rfl inb_S9216x65_S2304x1_6912_64 y)
    · exact fun y => (pay26_apply y).trans (feat_zero (spat x se w1x w1s b1 w2 b2) (hrows (gis x mk tm wxr wxz wxn wmr wmz wmn ter tez ten) whr whz whn bhn) 3 ![9128, 0] rfl inb_S9216x65_S88x64_9128_0 y)
    · exact fun y => feat_spat (spat x se w1x w1s b1 w2 b2) (hrows (gis x mk tm wxr wxz wxn wmr wmz wmn ter tez ten) whr whz whn bhn) 3 ![6912, 0] rfl inb_S9216x65_S2048x64_6912_0 y
    · exact fun y => (pay23_apply y).trans (feat_one (spat x se w1x w1s b1 w2 b2) (hrows (gis x mk tm wxr wxz wxn wmr wmz wmn ter tez ten) whr whz whn bhn) 2 ![4608, 64] rfl inb_S9216x65_S2304x1_4608_64 y)
    · exact fun y => (pay22_apply y).trans (feat_zero (spat x se w1x w1s b1 w2 b2) (hrows (gis x mk tm wxr wxz wxn wmr wmz wmn ter tez ten) whr whz whn bhn) 2 ![6824, 0] rfl inb_S9216x65_S88x64_6824_0 y)
    · exact fun y => feat_spat (spat x se w1x w1s b1 w2 b2) (hrows (gis x mk tm wxr wxz wxn wmr wmz wmn ter tez ten) whr whz whn bhn) 2 ![4608, 0] rfl inb_S9216x65_S2048x64_4608_0 y
    · exact fun y => (pay20_apply y).trans (feat_one (spat x se w1x w1s b1 w2 b2) (hrows (gis x mk tm wxr wxz wxn wmr wmz wmn ter tez ten) whr whz whn bhn) 1 ![2304, 64] rfl inb_S9216x65_S2304x1_2304_64 y)
    · exact fun y => (pay19_apply y).trans (feat_zero (spat x se w1x w1s b1 w2 b2) (hrows (gis x mk tm wxr wxz wxn wmr wmz wmn ter tez ten) whr whz whn bhn) 1 ![4520, 0] rfl inb_S9216x65_S88x64_4520_0 y)
    · exact fun y => feat_spat (spat x se w1x w1s b1 w2 b2) (hrows (gis x mk tm wxr wxz wxn wmr wmz wmn ter tez ten) whr whz whn bhn) 1 ![2304, 0] rfl inb_S9216x65_S2048x64_2304_0 y
    · exact fun y => (pay17_apply y).trans (feat_one (spat x se w1x w1s b1 w2 b2) (hrows (gis x mk tm wxr wxz wxn wmr wmz wmn ter tez ten) whr whz whn bhn) 0 ![0, 64] rfl inb_S9216x65_S2304x1_0_64 y)
    · exact fun y => (pay16_apply y).trans (feat_zero (spat x se w1x w1s b1 w2 b2) (hrows (gis x mk tm wxr wxz wxn wmr wmz wmn ter tez ten) whr whz whn bhn) 0 ![2216, 0] rfl inb_S9216x65_S88x64_2216_0 y)
    · exact fun y => feat_spat (spat x se w1x w1s b1 w2 b2) (hrows (gis x mk tm wxr wxz wxn wmr wmz wmn ter tez ten) whr whz whn bhn) 0 ![0, 0] rfl inb_S9216x65_S2048x64_0_0 y
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  isplitl [H29 H30 H31 H28]
  · iexists (feat (spat x se w1x w1s b1 w2 b2) (hrows (gis x mk tm wxr wxz wxn wmr wmz wmn ter tez ten) whr whz whn bhn))
    isplitl [H29]
    · iexists _; isplitr; swap; · iexact H29
      ipureintro; exact hfeat
    isplitr; · ipureintro; rfl
    isplitl [H30]
    · iexists _; isplitr; swap; · iexact H30
      ipureintro
      rw [View.read_writes_cons_put _ _ _ _ _ rfl, View.read_writes_cons_put _ _ _ _ _ rfl]
      refine (put_aug _ _).trans (congrArg aug ?_)
      unfold k0_pay2
      rw [shapeCast_self]
      delta run_start.sl.r_15 run_start.sl.v13 run_start.sl.v24
      rw [load_blk64, load_blk65, hfeat]
      exact congr (congrArg (k0_pay63 _ _) (load_all _ harg24 w _)) (load_all _ harg25 b _)
    isplitl [H31]
    · iexists _; isplitr; swap; · iexact H31
      ipureintro
      rw [View.read_writes_full]
      delta run_start.sl.v13
      rw [load_blk64, hfeat]
      unfold k0_pay61
      rw [shapeCast_self]
    iexists _; isplitr; swap; · iexact H28
    ipureintro
    rw [View.read_writes_full]
    delta run_start.sl.r_14 run_start.sl.v13 run_start.sl.v24
    rw [load_blk64, load_blk65, hfeat]
    exact congrArg k0_pay4 (congr (congrArg (k0_pay62 _ _) (load_all _ harg24 w _)) (load_all _ harg25 b _))
  isplitl [H32]
  · iexists _; iexists _; isplitr; swap; · iexact H32
    ipureintro; rfl
  isplitl [H33]
  · iexists _; iexists _; isplitr; swap; · iexact H33
    ipureintro; rfl
  isplitl [H34]
  · iexists _; iexists _; isplitr; swap; · iexact H34
    ipureintro; rfl
  isplitl [H35]
  · iexists _; iexists _; isplitr; swap; · iexact H35
    ipureintro; rfl
  isplitl [H36]
  · iexists _; iexists _; isplitr; swap; · iexact H36
    ipureintro; rfl
  isplitl [H37]
  · iexists _; iexists _; isplitr; swap; · iexact H37
    ipureintro; rfl
  isplitl [H38]
  · iexists _; iexists _; isplitr; swap; · iexact H38
    ipureintro; rfl
  isplitl [H39]
  · iexists _; iexists _; isplitr; swap; · iexact H39
    ipureintro; rfl
  isplitl [H40]
  · iexists _; iexists _; isplitr; swap; · iexact H40
    ipureintro; rfl
  isplitl [H41]
  · iexists _; iexists _; isplitr; swap; · iexact H41
    ipureintro; rfl
  isplitl [H42]
  · iexists _; iexists _; isplitr; swap; · iexact H42
    ipureintro; rfl
  isplitl [H43]
  · iexists _; iexists _; isplitr; swap; · iexact H43
    ipureintro; rfl
  iexists _; iexists _; isplitr; swap; · iexact H44
  ipureintro; rfl

end Cert.KernelIdeal.Hand
-- ==== Proof.K.Body.lean ====
module

public import proofs.«01_k».proof.Proof.K.Dat
public import proofs.«01_k».proof.Proof.K.Start

/-! The body obligation, point by point, and the launch: @main terminates with every array of the pipeline at what the
    proof data say, and the argument arrays unchanged. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at the first point. -/
theorem sound_start (c : Dev nD) (t : Fin cfg0.N) (hz : t.val = 0) :
    bodyPre m c t ⊢ wp frame (wpE (defs₀ (F := F)) Variants.none c none) Set.univ (bodyAt0 t) (fun _ => bodyPost m c t) := by
  have hc0 : cond0_0 (grid0.coords t) := (hcond0_0 t).mpr (by omega)
  have hc1 : cond0_1 (grid0.coords t) := (hcond0_1 t).mpr (by omega)
  have hc2 : ¬ cond0_2 (grid0.coords t) := fun h => by have := (hcond0_2 t).mp h; omega
  obtain rfl : t = pt0 := Fin.ext hz
  refine (pre_blocks m c pt0).trans ?_
  rw [PhiS_zero m c _ _ rfl, phiA_eq]
  unfold insA rest bodyAt0
  iintro ⟨⟨⟨S0, S1, S2, S3, S4, S5, S6, S7, S8, S9, S10, S11, S12, S13, S14, S15⟩, Hg⟩, Ho, ⟨H0, H1, H2, H3, H4, H5, H6, H7, H8, H9, H10, H11, H12, H13, H14, H15, H16, H17, H18, H19, H20, H21⟩, HB, HO⟩
  unfold insB
  icases HB with ⟨H22, H23, H24, H25⟩
  iapply (run_start c (grid0.coords pt0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [S0]; · iexact S0
  isplitl [S1]; · iexact S1
  isplitl [S2]; · iexact S2
  isplitl [HO]; · iexact HO
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iintro ⟨H0, H1, H2, H3, H4, H5, H6, H7, H8, H9, H10, H11, H12, H13, H14, H15, H16, H17, H18, H19, H20, H21, H22, H23, ⟨%X, HX, %hX, S1, S2, HO⟩, S3, S4, S5, S6, S7, S8, S9, S10, S11, S12, S13, S14, S15⟩
  obtain rfl := hX
  iapply (post_blocks m c pt0)
  isplitl [HX S1 S2 S3 S4 S5 S6 S7 S8 S9 S10 S11 S12 S13 S14 S15 Hg]
  · rw [PhiS_succ]
    isplitr [Hg]; swap; · iexact Hg
    isplitl [HX]; · iexact HX
    isplitl [S1]; · iexact S1
    isplitl [S2]; · iexact S2
    unfold rest
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  isplitl [Ho]; · iexact Ho
  isplitl [H0 H1 H2 H3 H4 H5 H6 H7 H8 H9 H10 H11 H12 H13 H14 H15 H16 H17 H18 H19 H20 H21]
  · unfold insA
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22 H23 H24 H25]
  · unfold insB
    isplitl [H22]; · iexact H22
    isplitl [H23]; · iexact H23
    isplitl [H24]; · iexact H24
    iexact H25
  iexact HO

/-- The body at an even point after the first. -/
theorem sound_first (c : Dev nD) (t : Fin cfg0.N) (hz : t.val ≠ 0) (he : t.val % 2 = 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hc0 : ¬ cond0_0 (grid0.coords t) := fun h => by have := (hcond0_0 t).mp h; omega
  have hc1 : cond0_1 (grid0.coords t) := (hcond0_1 t).mpr he
  have hc2 : ¬ cond0_2 (grid0.coords t) := fun h => by have := (hcond0_2 t).mp h; omega
  have hev : evn t.val t.isLt = t := Fin.ext (by simp only [evn]; omega)
  refine (pre_blocks m c t).trans ?_
  rw [PhiS_pos m c _ _ hz]
  unfold insB bodyAt0
  iintro ⟨⟨⟨S0, S1, S2, HR⟩, Hg⟩, Ho, HA, ⟨H22, H23, H24, H25⟩, HO⟩
  iapply (run_first c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 _ _ _ Set.univ _)
  isplitl [H22]; · iexact H22
  isplitl [H23]; · iexact H23
  isplitl [S0]; · iexact S0
  isplitl [S1]; · iexists _; iexact S1
  isplitl [S2]; · iexists _; iexact S2
  isplitl [HO]; · iexact HO
  iintro ⟨H22, H23, S0, S1, S2, HO⟩
  iapply (post_blocks m c t)
  isplitl [S0 S1 S2 HR Hg]
  · rw [PhiS_succ, hev]
    isplitr [Hg]; swap; · iexact Hg
    isplitl [S0]; · iexact S0
    isplitl [S1]; · iexact S1
    isplitl [S2]; · iexact S2
    iexact HR
  isplitl [Ho]; · iexact Ho
  isplitl [HA]; · iexact HA
  isplitl [H22 H23 H24 H25]
  · unfold insB
    isplitl [H22]; · iexact H22
    isplitl [H23]; · iexact H23
    isplitl [H24]; · iexact H24
    iexact H25
  rw [show outAt m c t = _ from if_pos he]
  iexact HO

/-- The body at an odd point. -/
theorem sound_second (c : Dev nD) (t : Fin cfg0.N) (ho : t.val % 2 = 1) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hc0 : ¬ cond0_0 (grid0.coords t) := fun h => by have := (hcond0_0 t).mp h; omega
  have hc1 : ¬ cond0_1 (grid0.coords t) := fun h => by have := (hcond0_1 t).mp h; omega
  have hc2 : cond0_2 (grid0.coords t) := (hcond0_2 t).mpr ho
  have hev : evn (t.val - 1) (by omega) = evn t.val t.isLt := Fin.ext (by simp only [evn]; omega)
  refine (pre_blocks m c t).trans ?_
  rw [PhiS_pos m c _ _ (by omega), hev]
  unfold insB bodyAt0
  iintro ⟨⟨⟨S0, S1, S2, HR⟩, Hg⟩, Ho, HA, ⟨H22, H23, H24, H25⟩, HO⟩
  iapply (run_second c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 hc2 _ _ _ _ Set.univ _)
  isplitl [H24]; · iexact H24
  isplitl [H25]; · iexact H25
  isplitl [S1]; · iexact S1
  isplitl [S2]; · iexact S2
  isplitl [HO]; · iexact HO
  iintro ⟨H24, H25, S1, S2, HO⟩
  iapply (post_blocks m c t)
  isplitl [S0 S1 S2 HR Hg]
  · rw [PhiS_succ]
    isplitr [Hg]; swap; · iexact Hg
    isplitl [S0]; · iexact S0
    isplitl [S1]; · iexact S1
    isplitl [S2]; · iexact S2
    iexact HR
  isplitl [Ho]; · iexact Ho
  isplitl [HA]; · iexact HA
  isplitl [H22 H23 H24 H25]
  · unfold insB
    isplitl [H22]; · iexact H22
    isplitl [H23]; · iexact H23
    isplitl [H24]; · iexact H24
    iexact H25
  rw [show outAt m c t = _ from if_neg (by omega)]
  iexact HO

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_start m c t hz
  by_cases he : t.val % 2 = 0
  · exact sound_first m c t hz he
  exact sound_second m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the named contents are forgotten. -/
theorem hout (c : Dev nD) : (dats m 0 c).Φ (Fin.last cfg0.N) ⊢ Pipeline.ΦA spec0 c := by
  have hl : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ hl, phiA_eq]
  iintro ⟨⟨S0, S1, S2, HR⟩, Hg⟩
  isplitr [Hg]; swap; · iexact Hg
  isplitl [S0]; · iexists _; iexact S0
  isplitl [S1]; · iexists _; iexact S1
  isplitl [S2]; · iexists _; iexact S2
  iexact HR

set_option backward.isDefEq.respectTransparency.types false in
/-- The launch: every run of @main ends with the pipeline's arrays at what the proof data say and all counters at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
     )
      ∧ r.2.sem = fun _ => 0) :=
  θ_run_and (frame_of m ρ (dats m) (A_eq m) (run_main m ρ))
    ((θ_run defs _ _).mono (fun _ h => h.2) (run_main_quiescent m ρ))

end Cert.KernelIdeal.Hand
-- ==== Proof.K.Bits.lean ====
module

public import proofs.«01_k».proof.Defs
public import proofs.«01_k».proof.Proof.Gen.Kernel
public import proofs.«01_k».proof.Proof.Gen.KernelIdeal
public import proofs.«01_k».proof.Proof.K.Body

/-! The kernel as it stands and the one of the algebraic claim are the same program: its frame over the bit
    patterns is the frame proved for every interpretation of the floats, taken at the bit patterns. -/

@[expose] public section

set_option maxRecDepth 16384
set_option maxHeartbeats 4000000

noncomputable section

namespace Cert.Kernel.Hand

open Idealize.ShloMosaic Idealize.SL.Sem

/-- The bodies of the two programs agree, grid point by grid point. -/
theorem defs0_eq : Cert.Kernel.defs₀ (F := Bits) = Cert.KernelIdeal.defs₀ (F := Bits) := by
  unfold Cert.Kernel.defs₀ Cert.KernelIdeal.defs₀
  congr 1
  funext a b
  obtain ⟨a, ha⟩ := a
  cases a with
  | zero =>
    change Fin Cert.Kernel.grid0.N × _ at b
    obtain ⟨t, s⟩ := b
    rfl
  | succ n => exact absurd ha (by omega)

/-- The two programs name the same procedures. -/
theorem defs_eq : Cert.Kernel.defs (F := Bits) = Cert.KernelIdeal.defs (F := Bits) := by
  show Pipeline.defs Cert.Kernel.pcfgs Cert.Kernel.defs₀ = _
  rw [defs0_eq]
  rfl

/-- They have the same main. -/
theorem main_eq : Cert.Kernel.main (F := Bits) = Cert.KernelIdeal.main (F := Bits) := rfl

/-- The frame of the kernel over the bit patterns. -/
theorem frame : Cert.quiescent_Kernel := fun m ρ _ => by
  have h := Cert.KernelIdeal.Hand.frame (F := Bits) m ρ
  rw [← defs_eq, ← main_eq] at h
  exact h

end Cert.Kernel.Hand
-- ==== Proof.N.Net.lean ====
module

public import Idealize.ShloMosaic.Lib.Pointwise

/-! The network both programs compute, index by index over the extended reals: a dense encoder of each node's series, a
    gated recurrent encoder of each time step, and two graph convolutions over the adjacency of all their rows. -/

@[expose] public section

noncomputable section

namespace Cert.Net

open Idealize.ShloMosaic

/-- The argument arrays, as functions of their coordinates. -/
structure Args where
  x : Fin 4 → Fin 168 → Fin 2048 → EReal
  mark : Fin 4 → Fin 168 → Fin 4 → EReal
  se : Fin 2048 → Fin 32 → EReal
  w1 : Fin 200 → Fin 64 → EReal
  b1 : Fin 64 → EReal
  w2 : Fin 64 → Fin 64 → EReal
  b2 : Fin 64 → EReal
  te : Fin 168 → Fin 32 → EReal
  wih : Fin 192 → Fin 2084 → EReal
  whh : Fin 192 → Fin 64 → EReal
  bih : Fin 192 → EReal
  bhh : Fin 192 → EReal
  g1 : Fin 64 → Fin 64 → EReal
  gb1 : Fin 64 → EReal
  g2 : Fin 64 → Fin 64 → EReal
  gb2 : Fin 64 → EReal

/-- The arguments read from the arrays. -/
def Args.of (x : (⟨3, ![4, 168, 2048]⟩ : Shape).Idx → EReal) (mark : (⟨3, ![4, 168, 4]⟩ : Shape).Idx → EReal)
    (se : (⟨2, ![2048, 32]⟩ : Shape).Idx → EReal) (w1 : (⟨2, ![200, 64]⟩ : Shape).Idx → EReal) (b1 : (⟨1, ![64]⟩ : Shape).Idx → EReal)
    (w2 : (⟨2, ![64, 64]⟩ : Shape).Idx → EReal) (b2 : (⟨1, ![64]⟩ : Shape).Idx → EReal) (te : (⟨2, ![168, 32]⟩ : Shape).Idx → EReal)
    (wih : (⟨2, ![192, 2084]⟩ : Shape).Idx → EReal) (whh : (⟨2, ![192, 64]⟩ : Shape).Idx → EReal)
    (bih bhh : (⟨1, ![192]⟩ : Shape).Idx → EReal) (g1 : (⟨2, ![64, 64]⟩ : Shape).Idx → EReal) (gb1 : (⟨1, ![64]⟩ : Shape).Idx → EReal)
    (g2 : (⟨2, ![64, 64]⟩ : Shape).Idx → EReal) (gb2 : (⟨1, ![64]⟩ : Shape).Idx → EReal) : Args where
  x := fun b t n => x (ix3 b t n)
  mark := fun b t q => mark (ix3 b t q)
  se := fun n e => se (ix2 n e)
  w1 := fun q k => w1 (ix2 q k)
  b1 := fun k => b1 (ix1 k)
  w2 := fun k j => w2 (ix2 k j)
  b2 := fun j => b2 (ix1 j)
  te := fun t e => te (ix2 t e)
  wih := fun g q => wih (ix2 g q)
  whh := fun g k => whh (ix2 g k)
  bih := fun g => bih (ix1 g)
  bhh := fun g => bhh (ix1 g)
  g1 := fun j k => g1 (ix2 j k)
  gb1 := fun k => gb1 (ix1 k)
  g2 := fun j k => g2 (ix2 j k)
  gb2 := fun k => gb2 (ix1 k)

/-- The exponential linear unit. -/
def elu (v : EReal) : EReal := if 0 < v then v else Ideal.exp v - 1

/-- The logistic function. -/
def logi (v : EReal) : EReal := Ideal.div 1 (1 + Ideal.exp (-v))

/-- The constant added to every degree. -/
def eps : EReal := Ideal.ofBits .f32 0x358637BD#32

/-- The gate column `64 g + j`. -/
def col (g : Fin 3) (j : Fin 64) : Fin 192 := ⟨64 * g.val + j.val, by omega⟩

theorem col_zero (j : Fin 64) : col 0 j = ⟨j.val, by omega⟩ := Fin.ext (by simp [col])

variable (a : Args)

/-- Node `n`'s series followed by its embedding. -/
def spIn (b : Fin 4) (n : Fin 2048) (q : Fin 200) : EReal :=
  if h : q.val < 168 then a.x b ⟨q.val, h⟩ n else a.se n ⟨q.val - 168, by omega⟩

/-- The spatial encoder's hidden layer. -/
def spHid (b : Fin 4) (n : Fin 2048) (k : Fin 64) : EReal := elu (∑ q : Fin 200, spIn a b n q * a.w1 q k + a.b1 k)

/-- The spatial encoder. -/
def sp (b : Fin 4) (n : Fin 2048) (j : Fin 64) : EReal := ∑ k : Fin 64, spHid a b n k * a.w2 k j + a.b2 j

/-- Step `t`'s row of the series, its marks and its embedding. -/
def tmIn (b : Fin 4) (t : Fin 168) (q : Fin 2084) : EReal :=
  if h : q.val < 2048 then a.x b t ⟨q.val, h⟩
  else if h' : q.val < 2052 then a.mark b t ⟨q.val - 2048, by omega⟩
  else a.te t ⟨q.val - 2052, by omega⟩

/-- The gates' input part. -/
def gIn (b : Fin 4) (t : Fin 168) (g : Fin 192) : EReal := ∑ q : Fin 2084, tmIn a b t q * a.wih g q + a.bih g

/-- The gates' recurrent part, from a state. -/
def gHid (h : Fin 64 → EReal) (g : Fin 192) : EReal := ∑ k : Fin 64, h k * a.whh g k + a.bhh g

/-- The update gate. -/
def zgate (b : Fin 4) (t : Fin 168) (h : Fin 64 → EReal) (j : Fin 64) : EReal := logi (gIn a b t (col 1 j) + gHid a h (col 1 j))

/-- The candidate state. -/
def cand (b : Fin 4) (t : Fin 168) (h : Fin 64 → EReal) (j : Fin 64) : EReal :=
  Ideal.tanh (gIn a b t (col 2 j) + logi (gIn a b t (col 0 j) + gHid a h (col 0 j)) * gHid a h (col 2 j))

/-- One step of the recurrent encoder. -/
def cell (b : Fin 4) (t : Fin 168) (h : Fin 64 → EReal) (j : Fin 64) : EReal :=
  (1 - zgate a b t h j) * cand a b t h j + zgate a b t h j * h j

/-- The state after `t` steps. -/
def hid (b : Fin 4) : ℕ → Fin 64 → EReal
  | 0 => fun _ => 0
  | t + 1 => cell a b ⟨min t 167, by omega⟩ (hid b t)

/-- The rows of the graph: the nodes, then the time steps. -/
def row (b : Fin 4) (n : Fin 2216) (j : Fin 64) : EReal :=
  if h : n.val < 2048 then sp a b ⟨n.val, h⟩ j else hid a b (n.val - 2048 + 1) j

/-- The adjacency. -/
def adj (b : Fin 4) (n m : Fin 2216) : EReal := Ideal.tanh (max (∑ j : Fin 64, row a b n j * row a b m j) 0)

/-- The degrees. -/
def deg (b : Fin 4) (n : Fin 2216) : EReal := ∑ m : Fin 2216, adj a b n m + eps

/-- The rows `Y`, mixed by the normalized adjacency. -/
def mix (b : Fin 4) (Y : Fin 2216 → Fin 64 → EReal) (n : Fin 2216) (j : Fin 64) : EReal :=
  ∑ m : Fin 2216, Ideal.div (adj a b n m) (deg a b n) * Y m j

/-- The first graph convolution. -/
def out1 (b : Fin 4) (n : Fin 2216) (k : Fin 64) : EReal := elu (∑ j : Fin 64, mix a b (row a b) n j * a.g1 j k + a.gb1 k)

/-- The second graph convolution, the result. -/
def out (b : Fin 4) (n : Fin 2216) (k : Fin 64) : EReal := ∑ j : Fin 64, mix a b (out1 a b) n j * a.g2 j k + a.gb2 k

end Cert.Net
-- ==== Proof.N.Num.lean ====
module

public import proofs.«01_k».proof.Proof.N.Net
public import Mathlib.Analysis.SpecialFunctions.Trigonometric.DerivHyp

/-! Facts of the extended reals: the two forms of the exponential linear unit and of the logistic function, the two forms
    of a weighted mean, a quotient taken out of a sum, and sums cut in parts. -/

@[expose] public section

noncomputable section

namespace Cert.Net

open Idealize.ShloMosaic

theorem ofBits_one : Ideal.ofBits .f32 0x3F800000#32 = 1 := by
  simp [Ideal.ofBits, Ideal.ieee]
  rw [← EReal.coe_mul]; norm_num

theorem ofBits_half : Ideal.ofBits .f32 0x3F000000#32 = ((1 / 2 : ℝ) : EReal) := by
  simp [Ideal.ofBits, Ideal.ieee]
  rw [← EReal.coe_mul]; norm_num

theorem ofBits_one_bf16 : Ideal.ofBits .bf16 0x3F80#16 = 1 := by
  simp [Ideal.ofBits, Ideal.ieee]
  rw [← EReal.coe_mul]; norm_num

theorem ofBits_zero_bf16 : Ideal.ofBits .bf16 0x0000#16 = 0 := by
  simp [Ideal.ofBits, Ideal.ieee]

theorem eps_pos : ∃ r : ℝ, 0 < r ∧ eps = (r : EReal) := by
  refine ⟨8796093 * 2 ^ (-43 : ℤ), by positivity, ?_⟩
  simp [eps, Ideal.ofBits, Ideal.ieee]

/-- Below zero the smaller of a number and zero is the number. -/
theorem elu_min (v : EReal) : (if 0 < v then v else Ideal.exp (min v 0) - 1) = elu v := by
  unfold elu
  by_cases h : 0 < v
  · rw [if_pos h, if_pos h]
  · rw [if_neg h, if_neg h, min_eq_left (not_lt.mp h)]

/-- The hyperbolic tangent is always a number of [-1, 1]. -/
theorem tanh_real (v : EReal) : ∃ r : ℝ, -1 ≤ r ∧ r ≤ 1 ∧ Ideal.tanh v = (r : EReal) := by
  induction v using EReal.rec with
  | bot => exact ⟨-1, le_refl _, by norm_num, rfl⟩
  | top => exact ⟨1, by norm_num, le_refl _, rfl⟩
  | coe r => exact ⟨Real.tanh r, (Real.neg_one_lt_tanh r).le, (Real.tanh_lt_one r).le, rfl⟩

theorem tanh_nonneg {v : EReal} (h : 0 ≤ v) : 0 ≤ Ideal.tanh v := by
  induction v using EReal.rec with
  | bot => simp at h
  | top => exact zero_le_one
  | coe r =>
    have hr : 0 ≤ r := by exact_mod_cast h
    show (0 : EReal) ≤ ((Real.tanh r : ℝ) : EReal)
    rw [Real.tanh_eq_sinh_div_cosh]
    exact_mod_cast div_nonneg (Real.sinh_nonneg_iff.mpr hr) (Real.cosh_pos r).le

theorem tanh_zero : Ideal.tanh 0 = 0 := by
  show ((Real.tanh 0 : ℝ) : EReal) = 0
  rw [Real.tanh_zero]; rfl

/-- The logistic function by the hyperbolic tangent of half the argument. -/
theorem logi_tanh (v : EReal) :
    ((1 / 2 : ℝ) : EReal) * Ideal.tanh (((1 / 2 : ℝ) : EReal) * v) + ((1 / 2 : ℝ) : EReal) = logi v := by
  induction v using EReal.rec with
  | bot =>
    rw [EReal.coe_mul_bot_of_pos (by norm_num)]
    show ((1 / 2 : ℝ) : EReal) * (-1) + ((1 / 2 : ℝ) : EReal) = Ideal.div 1 (1 + Ideal.exp (-⊥))
    rw [EReal.neg_bot]
    show _ = Ideal.div 1 (1 + ⊤)
    rw [EReal.add_top_of_ne_bot (by decide)]
    unfold Ideal.div
    rw [if_neg (by simp), EReal.inv_top, mul_zero]
    have : ((1 / 2 : ℝ) : EReal) * (-1) + ((1 / 2 : ℝ) : EReal) = (((1 / 2 : ℝ) * (-1) + (1 / 2) : ℝ) : EReal) := by push_cast; rfl
    rw [this]; norm_num
  | top =>
    rw [EReal.coe_mul_top_of_pos (by norm_num)]
    show ((1 / 2 : ℝ) : EReal) * 1 + ((1 / 2 : ℝ) : EReal) = Ideal.div 1 (1 + Ideal.exp (-⊤))
    rw [EReal.neg_top]
    show _ = Ideal.div 1 (1 + 0)
    rw [add_zero]
    unfold Ideal.div
    rw [if_neg (by simp), inv_one, mul_one]
    rw [mul_one, ← EReal.coe_add]; norm_num
  | coe r =>
    have e1 : ((1 / 2 : ℝ) : EReal) * (r : EReal) = ((1 / 2 * r : ℝ) : EReal) := by push_cast; rfl
    rw [e1]
    show ((1 / 2 : ℝ) : EReal) * ((Real.tanh (1 / 2 * r) : ℝ) : EReal) + ((1 / 2 : ℝ) : EReal) = Ideal.div 1 (1 + Ideal.exp (-(r : EReal)))
    rw [← EReal.coe_neg]
    show _ = Ideal.div 1 (1 + ((Real.exp (-r) : ℝ) : EReal))
    have e2 : (1 : EReal) + ((Real.exp (-r) : ℝ) : EReal) = ((1 + Real.exp (-r) : ℝ) : EReal) := by push_cast; rfl
    have hp : 0 < 1 + Real.exp (-r) := by positivity
    rw [e2]
    unfold Ideal.div
    rw [if_neg (by exact_mod_cast hp.ne'), one_mul, ← EReal.coe_inv, ← EReal.coe_mul, ← EReal.coe_add]
    congr 1
    rw [Real.tanh_eq_sinh_div_cosh, Real.sinh_eq, Real.cosh_eq]
    have hx : Real.exp (-r) = Real.exp (-(1 / 2 * r)) / Real.exp (1 / 2 * r) := by
      rw [← Real.exp_sub]; congr 1; ring
    have h1 := Real.exp_pos (1 / 2 * r)
    have h2 := Real.exp_pos (-(1 / 2 * r))
    rw [hx]
    field_simp
    ring

/-- The logistic function is always a number. -/
theorem logi_real (v : EReal) : ∃ r : ℝ, logi v = (r : EReal) := by
  obtain ⟨r, -, -, hr⟩ := tanh_real (((1 / 2 : ℝ) : EReal) * v)
  refine ⟨1 / 2 * r + 1 / 2, ?_⟩
  rw [← logi_tanh, hr]
  push_cast
  rfl

/-- The weighted mean of a candidate and a state, written as a step from the candidate. -/
theorem mean_step {z n h : EReal} (hz : ∃ r : ℝ, z = r) (hn : ∃ r : ℝ, n = r) (hh : ∃ r : ℝ, h = r) :
    n + z * (h - n) = (1 - z) * n + z * h := by
  obtain ⟨z, rfl⟩ := hz
  obtain ⟨n, rfl⟩ := hn
  obtain ⟨h, rfl⟩ := hh
  have e : (1 : EReal) = ((1 : ℝ) : EReal) := rfl
  rw [e]
  simp only [← EReal.coe_sub, ← EReal.coe_mul, ← EReal.coe_add]
  congr 1
  ring

/-- A finite nonnegative factor passes through a sum. -/
theorem sum_mul_real {ι : Type} (s : Finset ι) (f : ι → EReal) {d : EReal} (h0 : 0 ≤ d) (h1 : d ≠ ⊤) :
    (∑ i ∈ s, f i) * d = ∑ i ∈ s, f i * d := by
  classical
  induction s using Finset.induction_on with
  | empty => simp
  | insert i s hi ih => rw [Finset.sum_insert hi, Finset.sum_insert hi, EReal.right_distrib_of_nonneg_of_ne_top h0 h1, ih]

/-- The degrees are positive numbers. -/
theorem sum_real_add_eps {ι : Type} (s : Finset ι) (f : ι → EReal) (hf : ∀ i, ∃ r : ℝ, 0 ≤ r ∧ f i = r) :
    ∃ r : ℝ, 0 < r ∧ ∑ i ∈ s, f i + eps = (r : EReal) := by
  obtain ⟨e, he, hε⟩ := eps_pos
  choose g hg hfg using hf
  refine ⟨∑ i ∈ s, g i + e, add_pos_of_nonneg_of_pos (Finset.sum_nonneg fun i _ => hg i) he, ?_⟩
  rw [hε, EReal.coe_add]
  congr 1
  rw [Finset.sum_congr rfl fun i _ => hfg i]
  exact (map_sum (⟨⟨(fun r : ℝ => (r : EReal)), rfl⟩, fun _ _ => EReal.coe_add _ _⟩ : ℝ →+ EReal) g s).symm

/-- A sum of products, divided by a positive number, is the sum of the quotients' products. -/
theorem sum_div {ι : Type} (s : Finset ι) (f g : ι → EReal) {d : EReal} (hd : ∃ r : ℝ, 0 < r ∧ d = r) :
    (∑ i ∈ s, f i * g i) * Ideal.div 1 d = ∑ i ∈ s, Ideal.div (f i) d * g i := by
  obtain ⟨r, hr, rfl⟩ := hd
  have hne : (r : EReal) ≠ 0 := by exact_mod_cast hr.ne'
  have e : ∀ v : EReal, Ideal.div v (r : EReal) = v * ((r⁻¹ : ℝ) : EReal) := fun v => by
    unfold Ideal.div; rw [if_neg hne, EReal.coe_inv]
  rw [e, one_mul, sum_mul_real s _ (by exact_mod_cast (inv_pos.mpr hr).le) (EReal.coe_ne_top _)]
  refine Finset.sum_congr rfl fun i _ => ?_
  rw [e, mul_right_comm]

/-- A sum over `m + n` indices is the sum over the first `m` and over the last `n`. -/
theorem sum_cut {N : ℕ} (m n : ℕ) (h : m + n = N) (f : Fin N → EReal) :
    ∑ i : Fin N, f i = ∑ i : Fin m, f ⟨i.val, by omega⟩ + ∑ i : Fin n, f ⟨m + i.val, by omega⟩ := by
  subst h
  rw [Fin.sum_univ_add]
  rfl

end Cert.Net
-- ==== Proof.K.KVal.lean ====
module

public import proofs.«01_k».proof.Proof.K.Names
public import proofs.«01_k».proof.Proof.N.Num
public import Idealize.ShloMosaic.Lib.Pointwise

/-! The kernel's computations over the extended reals, read at an index. -/

@[expose] public section

set_option maxRecDepth 16384

noncomputable section

namespace Cert.KernelIdeal.Hand

open Cert.KernelIdeal.Gen Cert.Net
open Idealize.ShloMosaic Idealize.ShloMosaic.TcCoe Idealize.ShloMosaic.Tactic

/-- The adjacency of a batch's rows. -/
theorem pay60_apply (X : FVec Ideal S2304x64 .bf16) (r s : Fin 2304) :
    (k0_pay60 (F := Ideal) X (ix2 r s) : EReal) = Ideal.tanh (max (∑ j : Fin 64, X (ix2 r j) * X (ix2 s j)) 0) := by
  pointwise [k0_pay60]

/-- The first graph convolution of a batch's rows. -/
theorem pay62_apply (X : FVec Ideal S2304x64 .bf16) (Y : FVec Ideal S2304x65 .bf16) (w : FVec Ideal S64x64 .f32) (b : FVec Ideal S1x64 .f32)
    (r : Fin 2304) (k : Fin 64) :
    (k0_pay62 (F := Ideal) X Y w b (ix2 r k) : EReal) =
      elu (∑ j : Fin 64, ((∑ m : Fin 2304, (k0_pay60 (F := Ideal) X (ix2 r m) : EReal) * Y (ix2 m ⟨j.val, by omega⟩))
        * Ideal.div 1 (∑ m : Fin 2304, (k0_pay60 (F := Ideal) X (ix2 r m) : EReal) * Y (ix2 m 64) + eps)) * w (ix2 j k) + b (ix2 0 k)) := by
  rw [← elu_min]
  unfold eps
  pointwise [k0_pay62, k0_pay60]

/-- The second graph convolution of a batch's rows. -/
theorem pay5_apply (A : FVec Ideal S2304x2304 .bf16) (Y : FVec Ideal S2304x65 .bf16) (w : FVec Ideal S64x64 .f32) (b : FVec Ideal S1x64 .f32)
    (r : Fin 2304) (k : Fin 64) :
    (k0_pay5 (F := Ideal) A Y w b (ix3 0 r k) : EReal) =
      ∑ j : Fin 64, ((∑ m : Fin 2304, (A (ix2 r m) : EReal) * Y (ix2 m ⟨j.val, by omega⟩))
        * Ideal.div 1 (∑ m : Fin 2304, (A (ix2 r m) : EReal) * Y (ix2 m 64) + eps)) * w (ix2 j k) + b (ix2 0 k) := by
  unfold eps
  pointwise [k0_pay5]

/-- The spatial encoder's rows. -/
theorem spat_apply (x se w1x w1s b1 w2 b2 b) (n : Fin 2048) (j : Fin 64) :
    spat (F := Ideal) x se w1x w1s b1 w2 b2 b (ix2 n j) =
      ∑ k : Fin 64, elu (∑ t : Fin 168, x (ix3 b t n) * w1x (ix2 t k) + (∑ e : Fin 32, se (ix2 n e) * w1s (ix2 e k) + b1 (ix2 0 k)))
        * w2 (ix2 k j) + b2 (ix2 0 j) := by
  simp only [← elu_min]
  pointwise [spat, k0_pay18, k0_pay11, k0_pay12, xslab]
  simp only [← ix3_eq_valueIdx]

/-- A gate's input rows. -/
theorem gi_apply (x mk tm wx wm te b) (t : Fin 168) (j : Fin 64) :
    gi (F := Ideal) x mk tm wx wm te b (ix2 t j) =
      ∑ q : Fin 2048, x (ix3 b t q) * wx (ix2 q j) + ∑ q : Fin 4, mk (ix3 b t q) * wm (ix2 q j) + ∑ q : Fin 33, tm (ix2 t q) * te (ix2 q j) := by
  pointwise [gi, k0_pay31, k0_pay28, xslab, mslab]
  simp only [← ix3_eq_valueIdx]

/-- A gate's input of batch `b` at step `t`. -/
def gateOf (G : Fin 12 → Vec Ideal S168x64 .f32) (g : Fin 3) (t : ℕ) (b : Fin 4) (j : Fin 64) : EReal :=
  G ⟨4 * g.val + b.val, by omega⟩ (ix2 ⟨min t 167, by omega⟩ j)

/-- A step of the recurrent scan. -/
theorem gruStep_apply (G wr wz wn bn t h) (b : Fin 4) (j : Fin 64) :
    gruStep (F := Ideal) G wr wz wn bn t h (ix2 b j) =
      (let r := logi (gateOf G 0 t b j + ∑ k : Fin 64, h (ix2 b k) * wr (ix2 k j))
       let z := logi (gateOf G 1 t b j + ∑ k : Fin 64, h (ix2 b k) * wz (ix2 k j))
       let n := Ideal.tanh (gateOf G 2 t b j + r * (∑ k : Fin 64, h (ix2 b k) * wn (ix2 k j) + bn (ix2 0 j)))
       n + z * (h (ix2 b j) - n)) := by
  pointwise [gruStep, k0_pay52, k0_pay6, k0_pay7, k0_pay8, k0_pay9, k0_pay10, k0_pay48, k0_pay49, k0_pay50, rowOf]
  simp only [← ix2_eq_valueIdx, ix2_0, ix2_1, show Ideal.ofBits FTy.f32 1056964608#32 = _ from ofBits_half, logi_tanh, gateOf]
  match b with
  | 0 => rfl
  | 1 => rfl
  | 2 => rfl
  | 3 => rfl

end Cert.KernelIdeal.Hand
-- ==== Proof.K.KHost.lean ====
module

public import proofs.«01_k».proof.Proof.K.Dat
public import proofs.«01_k».proof.Proof.N.Num
public import Idealize.ShloMosaic.Lib.Pointwise
public import Idealize.ShloMosaic.Lib.StableHlo.RunRead
public import Idealize.ShloMosaic.Lib.Pipeline.ValueKit.Point

/-! What the host operations before the launch leave in the windows' arrays, entry by entry, from the arguments. -/

@[expose] public section

set_option maxRecDepth 16384

noncomputable section

namespace Cert.KernelIdeal.Hand

open Cert.KernelIdeal.Gen Cert.Net
open Idealize.ShloMosaic Idealize.ShloMosaic.TcCoe Idealize.ShloMosaic.Tactic Idealize.SL.Sem

variable (m : (ℓ : Loc nD τ sig) → Buf (Elt Ideal) ℓ) (c : Dev nD)

/-- The network's arguments, from the argument arrays. -/
def argsK : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))

/-! Every input window's block is the whole of its array, at every point. -/

theorem idx_0 : ∀ t : Fin cfg0.N, win0_0.index t = ![0, 0, 0] := (by decide +kernel : ∀ t : Fin grid0.N, _)
theorem iblk_0 (t : Fin cfg0.N) : iblk m c 0 t = V m c main_arg0 := by
  funext y; blk_simp [iblk]; congr 1; blk_ext [idx_0]

theorem idx_1 : ∀ t : Fin cfg0.N, win0_1.index t = ![0, 0, 0] := (by decide +kernel : ∀ t : Fin grid0.N, _)
theorem iblk_1 (t : Fin cfg0.N) : iblk m c 1 t = V m c main_arg1 := by
  funext y; blk_simp [iblk]; congr 1; blk_ext [idx_1]

theorem idx_2 : ∀ t : Fin cfg0.N, win0_2.index t = ![0, 0] := (by decide +kernel : ∀ t : Fin grid0.N, _)
theorem iblk_2 (t : Fin cfg0.N) : iblk m c 2 t = V m c main_arg2 := by
  funext y; blk_simp [iblk]; congr 1; blk_ext [idx_2]

theorem idx_3 : ∀ t : Fin cfg0.N, win0_3.index t = ![0, 0] := (by decide +kernel : ∀ t : Fin grid0.N, _)
theorem iblk_3 (t : Fin cfg0.N) : iblk m c 3 t = V m c main_v0 := by
  funext y; blk_simp [iblk]; congr 1; blk_ext [idx_3]

theorem idx_4 : ∀ t : Fin cfg0.N, win0_4.index t = ![0, 0] := (by decide +kernel : ∀ t : Fin grid0.N, _)
theorem iblk_4 (t : Fin cfg0.N) : iblk m c 4 t = V m c main_v1 := by
  funext y; blk_simp [iblk]; congr 1; blk_ext [idx_4]

theorem idx_5 : ∀ t : Fin cfg0.N, win0_5.index t = ![0, 0] := (by decide +kernel : ∀ t : Fin grid0.N, _)
theorem iblk_5 (t : Fin cfg0.N) : iblk m c 5 t = V m c main_v32 := by
  funext y; blk_simp [iblk]; congr 1; blk_ext [idx_5]

theorem idx_6 : ∀ t : Fin cfg0.N, win0_6.index t = ![0, 0] := (by decide +kernel : ∀ t : Fin grid0.N, _)
theorem iblk_6 (t : Fin cfg0.N) : iblk m c 6 t = V m c main_arg5 := by
  funext y; blk_simp [iblk]; congr 1; blk_ext [idx_6]

theorem idx_7 : ∀ t : Fin cfg0.N, win0_7.index t = ![0, 0] := (by decide +kernel : ∀ t : Fin grid0.N, _)
theorem iblk_7 (t : Fin cfg0.N) : iblk m c 7 t = V m c main_v33 := by
  funext y; blk_simp [iblk]; congr 1; blk_ext [idx_7]

theorem idx_8 : ∀ t : Fin cfg0.N, win0_8.index t = ![0, 0] := (by decide +kernel : ∀ t : Fin grid0.N, _)
theorem iblk_8 (t : Fin cfg0.N) : iblk m c 8 t = V m c main_v17 := by
  funext y; blk_simp [iblk]; congr 1; blk_ext [idx_8]

theorem idx_9 : ∀ t : Fin cfg0.N, win0_9.index t = ![0, 0] := (by decide +kernel : ∀ t : Fin grid0.N, _)
theorem iblk_9 (t : Fin cfg0.N) : iblk m c 9 t = V m c main_v4 := by
  funext y; blk_simp [iblk]; congr 1; blk_ext [idx_9]

theorem idx_10 : ∀ t : Fin cfg0.N, win0_10.index t = ![0, 0] := (by decide +kernel : ∀ t : Fin grid0.N, _)
theorem iblk_10 (t : Fin cfg0.N) : iblk m c 10 t = V m c main_v5 := by
  funext y; blk_simp [iblk]; congr 1; blk_ext [idx_10]

theorem idx_11 : ∀ t : Fin cfg0.N, win0_11.index t = ![0, 0] := (by decide +kernel : ∀ t : Fin grid0.N, _)
theorem iblk_11 (t : Fin cfg0.N) : iblk m c 11 t = V m c main_v6 := by
  funext y; blk_simp [iblk]; congr 1; blk_ext [idx_11]

theorem idx_12 : ∀ t : Fin cfg0.N, win0_12.index t = ![0, 0] := (by decide +kernel : ∀ t : Fin grid0.N, _)
theorem iblk_12 (t : Fin cfg0.N) : iblk m c 12 t = V m c main_v7 := by
  funext y; blk_simp [iblk]; congr 1; blk_ext [idx_12]

theorem idx_13 : ∀ t : Fin cfg0.N, win0_13.index t = ![0, 0] := (by decide +kernel : ∀ t : Fin grid0.N, _)
theorem iblk_13 (t : Fin cfg0.N) : iblk m c 13 t = V m c main_v8 := by
  funext y; blk_simp [iblk]; congr 1; blk_ext [idx_13]

theorem idx_14 : ∀ t : Fin cfg0.N, win0_14.index t = ![0, 0] := (by decide +kernel : ∀ t : Fin grid0.N, _)
theorem iblk_14 (t : Fin cfg0.N) : iblk m c 14 t = V m c main_v9 := by
  funext y; blk_simp [iblk]; congr 1; blk_ext [idx_14]

theorem idx_15 : ∀ t : Fin cfg0.N, win0_15.index t = ![0, 0] := (by decide +kernel : ∀ t : Fin grid0.N, _)
theorem iblk_15 (t : Fin cfg0.N) : iblk m c 15 t = V m c main_v26 := by
  funext y; blk_simp [iblk]; congr 1; blk_ext [idx_15]

theorem idx_16 : ∀ t : Fin cfg0.N, win0_16.index t = ![0, 0] := (by decide +kernel : ∀ t : Fin grid0.N, _)
theorem iblk_16 (t : Fin cfg0.N) : iblk m c 16 t = V m c main_v29 := by
  funext y; blk_simp [iblk]; congr 1; blk_ext [idx_16]

theorem idx_17 : ∀ t : Fin cfg0.N, win0_17.index t = ![0, 0] := (by decide +kernel : ∀ t : Fin grid0.N, _)
theorem iblk_17 (t : Fin cfg0.N) : iblk m c 17 t = V m c main_v31 := by
  funext y; blk_simp [iblk]; congr 1; blk_ext [idx_17]

theorem idx_18 : ∀ t : Fin cfg0.N, win0_18.index t = ![0, 0] := (by decide +kernel : ∀ t : Fin grid0.N, _)
theorem iblk_18 (t : Fin cfg0.N) : iblk m c 18 t = V m c main_v13 := by
  funext y; blk_simp [iblk]; congr 1; blk_ext [idx_18]

theorem idx_19 : ∀ t : Fin cfg0.N, win0_19.index t = ![0, 0] := (by decide +kernel : ∀ t : Fin grid0.N, _)
theorem iblk_19 (t : Fin cfg0.N) : iblk m c 19 t = V m c main_v14 := by
  funext y; blk_simp [iblk]; congr 1; blk_ext [idx_19]

theorem idx_20 : ∀ t : Fin cfg0.N, win0_20.index t = ![0, 0] := (by decide +kernel : ∀ t : Fin grid0.N, _)
theorem iblk_20 (t : Fin cfg0.N) : iblk m c 20 t = V m c main_v15 := by
  funext y; blk_simp [iblk]; congr 1; blk_ext [idx_20]

theorem idx_21 : ∀ t : Fin cfg0.N, win0_21.index t = ![0, 0] := (by decide +kernel : ∀ t : Fin grid0.N, _)
theorem iblk_21 (t : Fin cfg0.N) : iblk m c 21 t = V m c main_v34 := by
  funext y; blk_simp [iblk]; congr 1; blk_ext [idx_21]

theorem idx_22 : ∀ t : Fin cfg0.N, win0_22.index t = ![0, 0] := (by decide +kernel : ∀ t : Fin grid0.N, _)
theorem iblk_22 (t : Fin cfg0.N) : iblk m c 22 t = V m c main_arg12 := by
  funext y; blk_simp [iblk]; congr 1; blk_ext [idx_22]

theorem idx_23 : ∀ t : Fin cfg0.N, win0_23.index t = ![0, 0] := (by decide +kernel : ∀ t : Fin grid0.N, _)
theorem iblk_23 (t : Fin cfg0.N) : iblk m c 23 t = V m c main_v35 := by
  funext y; blk_simp [iblk]; congr 1; blk_ext [idx_23]

theorem idx_24 : ∀ t : Fin cfg0.N, win0_24.index t = ![0, 0] := (by decide +kernel : ∀ t : Fin grid0.N, _)
theorem iblk_24 (t : Fin cfg0.N) : iblk m c 24 t = V m c main_arg14 := by
  funext y; blk_simp [iblk]; congr 1; blk_ext [idx_24]

theorem idx_25 : ∀ t : Fin cfg0.N, win0_25.index t = ![0, 0] := (by decide +kernel : ∀ t : Fin grid0.N, _)
theorem iblk_25 (t : Fin cfg0.N) : iblk m c 25 t = V m c main_v36 := by
  funext y; blk_simp [iblk]; congr 1; blk_ext [idx_25]

/-! The blocks' entries. -/

theorem blk_x (t : Fin cfg0.N) (b : Fin 4) (s : Fin 168) (n : Fin 2048) : iblk m c 0 t (ix3 b s n) = (argsK m c).x b s n := by
  rw [iblk_0]; after_reads_simp; pointwise []; rfl

theorem blk_mark (t : Fin cfg0.N) (b : Fin 4) (s : Fin 168) (q : Fin 4) : iblk m c 1 t (ix3 b s q) = (argsK m c).mark b s q := by
  rw [iblk_1]; after_reads_simp; pointwise []; rfl

theorem blk_se (t : Fin cfg0.N) (n : Fin 2048) (e : Fin 32) : iblk m c 2 t (ix2 n e) = (argsK m c).se n e := by
  rw [iblk_2]; after_reads_simp; pointwise []; rfl

theorem blk_w1x (t : Fin cfg0.N) (q : Fin 168) (k : Fin 64) : iblk m c 3 t (ix2 q k) = (argsK m c).w1 ⟨q.val, by omega⟩ k := by
  rw [iblk_3]; after_reads_simp; pointwise []; rfl

theorem blk_w1s (t : Fin cfg0.N) (q : Fin 32) (k : Fin 64) : iblk m c 4 t (ix2 q k) = (argsK m c).w1 ⟨168 + q.val, by omega⟩ k := by
  rw [iblk_4]; after_reads_simp; pointwise []; rfl

theorem blk_b1 (t : Fin cfg0.N) (k : Fin 64) : iblk m c 5 t (ix2 0 k) = (argsK m c).b1 k := by
  rw [iblk_5]; after_reads_simp; pointwise []; rfl

theorem blk_w2 (t : Fin cfg0.N) (k j : Fin 64) : iblk m c 6 t (ix2 k j) = (argsK m c).w2 k j := by
  rw [iblk_6]; after_reads_simp; pointwise []; rfl

theorem blk_b2 (t : Fin cfg0.N) (k : Fin 64) : iblk m c 7 t (ix2 0 k) = (argsK m c).b2 k := by
  rw [iblk_7]; after_reads_simp; pointwise []; rfl

theorem blk_tm (t : Fin cfg0.N) (s : Fin 168) (q : Fin 33) : iblk m c 8 t (ix2 s q) = if h : q.val < 32 then (argsK m c).te s ⟨q.val, h⟩ else 1 := by
  rw [iblk_8, ← ofBits_one]; after_reads_simp; pointwise []; rfl

theorem blk_wxr (t : Fin cfg0.N) (q : Fin 2048) (j : Fin 64) : iblk m c 9 t (ix2 q j) = (argsK m c).wih (col 0 j) ⟨q.val, by omega⟩ := by
  rw [iblk_9, col_zero]; after_reads_simp; pointwise []; rfl

theorem blk_wmr (t : Fin cfg0.N) (q : Fin 4) (j : Fin 64) : iblk m c 12 t (ix2 q j) = (argsK m c).wih (col 0 j) ⟨2048 + q.val, by omega⟩ := by
  rw [iblk_12, col_zero]; after_reads_simp; pointwise []; rfl

theorem blk_ter (t : Fin cfg0.N) (q : Fin 33) (j : Fin 64) : iblk m c 15 t (ix2 q j) = if h : q.val < 32 then (argsK m c).wih (col 0 j) ⟨2052 + q.val, by omega⟩ else (argsK m c).bih (col 0 j) + (argsK m c).bhh (col 0 j) := by
  rw [iblk_15, col_zero]; after_reads_simp; pointwise []; rfl

theorem blk_whr (t : Fin cfg0.N) (k j : Fin 64) : iblk m c 18 t (ix2 k j) = (argsK m c).whh (col 0 j) k := by
  rw [iblk_18, col_zero]; after_reads_simp; pointwise []; rfl

theorem blk_wxz (t : Fin cfg0.N) (q : Fin 2048) (j : Fin 64) : iblk m c 10 t (ix2 q j) = (argsK m c).wih (col 1 j) ⟨q.val, by omega⟩ := by
  rw [iblk_10]; after_reads_simp; pointwise []; rfl

theorem blk_wmz (t : Fin cfg0.N) (q : Fin 4) (j : Fin 64) : iblk m c 13 t (ix2 q j) = (argsK m c).wih (col 1 j) ⟨2048 + q.val, by omega⟩ := by
  rw [iblk_13]; after_reads_simp; pointwise []; rfl

theorem blk_tez (t : Fin cfg0.N) (q : Fin 33) (j : Fin 64) : iblk m c 16 t (ix2 q j) = if h : q.val < 32 then (argsK m c).wih (col 1 j) ⟨2052 + q.val, by omega⟩ else (argsK m c).bih (col 1 j) + (argsK m c).bhh (col 1 j) := by
  rw [iblk_16]; after_reads_simp; pointwise []; rfl

theorem blk_whz (t : Fin cfg0.N) (k j : Fin 64) : iblk m c 19 t (ix2 k j) = (argsK m c).whh (col 1 j) k := by
  rw [iblk_19]; after_reads_simp; pointwise []; rfl

theorem blk_wxn (t : Fin cfg0.N) (q : Fin 2048) (j : Fin 64) : iblk m c 11 t (ix2 q j) = (argsK m c).wih (col 2 j) ⟨q.val, by omega⟩ := by
  rw [iblk_11]; after_reads_simp; pointwise []; rfl

theorem blk_wmn (t : Fin cfg0.N) (q : Fin 4) (j : Fin 64) : iblk m c 14 t (ix2 q j) = (argsK m c).wih (col 2 j) ⟨2048 + q.val, by omega⟩ := by
  rw [iblk_14]; after_reads_simp; pointwise []; rfl

theorem blk_ten (t : Fin cfg0.N) (q : Fin 33) (j : Fin 64) : iblk m c 17 t (ix2 q j) = if h : q.val < 32 then (argsK m c).wih (col 2 j) ⟨2052 + q.val, by omega⟩ else (argsK m c).bih (col 2 j) := by
  rw [iblk_17]; after_reads_simp; pointwise []; rfl

theorem blk_whn (t : Fin cfg0.N) (k j : Fin 64) : iblk m c 20 t (ix2 k j) = (argsK m c).whh (col 2 j) k := by
  rw [iblk_20]; after_reads_simp; pointwise []; rfl

theorem blk_bhn (t : Fin cfg0.N) (j : Fin 64) : iblk m c 21 t (ix2 0 j) = (argsK m c).bhh (col 2 j) := by
  rw [iblk_21]; after_reads_simp; pointwise []; rfl

theorem blk_g1 (t : Fin cfg0.N) (j k : Fin 64) : iblk m c 22 t (ix2 j k) = (argsK m c).g1 j k := by
  rw [iblk_22]; after_reads_simp; pointwise []; rfl

theorem blk_gb1 (t : Fin cfg0.N) (k : Fin 64) : iblk m c 23 t (ix2 0 k) = (argsK m c).gb1 k := by
  rw [iblk_23]; after_reads_simp; pointwise []; rfl

theorem blk_g2 (t : Fin cfg0.N) (j k : Fin 64) : iblk m c 24 t (ix2 j k) = (argsK m c).g2 j k := by
  rw [iblk_24]; after_reads_simp; pointwise []; rfl

theorem blk_gb2 (t : Fin cfg0.N) (k : Fin 64) : iblk m c 25 t (ix2 0 k) = (argsK m c).gb2 k := by
  rw [iblk_25]; after_reads_simp; pointwise []; rfl

end Cert.KernelIdeal.Hand
-- ==== Proof.N.Pad.lean ====
module

public import proofs.«01_k».proof.Proof.N.Num

/-! The network in the form the kernel computes it: the inputs' sums in parts, the rows padded with zeros to 2304, the
    degree as one more column of the product and the quotient taken last. -/

@[expose] public section

noncomputable section

namespace Cert.Net

open Idealize.ShloMosaic

variable (a : Args)

/-- The spatial encoder with its first sum in two parts. -/
theorem sp_parts (b : Fin 4) (n : Fin 2048) (j : Fin 64) :
    ∑ k : Fin 64, elu (∑ t : Fin 168, a.x b t n * a.w1 ⟨t.val, by omega⟩ k
        + (∑ e : Fin 32, a.se n e * a.w1 ⟨168 + e.val, by omega⟩ k + a.b1 k)) * a.w2 k j + a.b2 j = sp a b n j := by
  unfold sp spHid
  refine congrArg (· + a.b2 j) (Finset.sum_congr rfl fun k _ => ?_)
  rw [sum_cut 168 32 rfl, ← add_assoc]
  refine congrArg (fun v => elu (v + a.b1 k) * a.w2 k j) (congrArg₂ (fun v w : EReal => v + w)
    (Finset.sum_congr rfl fun t _ => ?_) (Finset.sum_congr rfl fun e _ => ?_))
  · rw [spIn, dif_pos t.isLt]
  · rw [spIn, dif_neg (by simp)]
    simp

/-- A gate's input part with its sum in three parts. -/
theorem gIn_parts (b : Fin 4) (t : Fin 168) (g : Fin 192) :
    ∑ q : Fin 2048, a.x b t q * a.wih g ⟨q.val, by omega⟩ + ∑ q : Fin 4, a.mark b t q * a.wih g ⟨2048 + q.val, by omega⟩
      + ∑ q : Fin 32, a.te t q * a.wih g ⟨2052 + q.val, by omega⟩ + a.bih g = gIn a b t g := by
  unfold gIn
  rw [sum_cut 2048 36 rfl, sum_cut 4 32 rfl, ← add_assoc]
  refine congrArg (· + a.bih g) (congrArg₂ (fun v w : EReal => v + w) (congrArg₂ (fun v w : EReal => v + w)
    (Finset.sum_congr rfl fun q _ => ?_) (Finset.sum_congr rfl fun q _ => ?_)) (Finset.sum_congr rfl fun q _ => ?_))
  · rw [tmIn, dif_pos q.isLt]
  · rw [tmIn, dif_neg (by simp), dif_pos (by simp; omega)]
    simp
  · rw [tmIn, dif_neg (by simp), dif_neg (by simp; omega)]
    refine congrArg₂ (fun v w => a.te t v * a.wih g w) (Fin.ext ?_) (Fin.ext ?_)
    · show q.val = 2048 + (4 + q.val) - 2052
      omega
    · show 2052 + q.val = 2048 + (4 + q.val)
      omega

/-- The states are numbers. -/
theorem hid_real (b : Fin 4) : ∀ (t : ℕ) (j : Fin 64), ∃ r : ℝ, hid a b t j = r
  | 0, _ => ⟨0, rfl⟩
  | t + 1, j => by
    obtain ⟨h, hh⟩ := hid_real b t j
    obtain ⟨z, hz⟩ := logi_real (gIn a b ⟨min t 167, by omega⟩ (col 1 j) + gHid a (hid a b t) (col 1 j))
    obtain ⟨n, -, -, hn⟩ := tanh_real (gIn a b ⟨min t 167, by omega⟩ (col 2 j)
      + logi (gIn a b ⟨min t 167, by omega⟩ (col 0 j) + gHid a (hid a b t) (col 0 j)) * gHid a (hid a b t) (col 2 j))
    refine ⟨(1 - z) * n + z * h, ?_⟩
    show (1 - zgate a b _ (hid a b t) j) * cand a b _ (hid a b t) j + zgate a b _ (hid a b t) j * hid a b t j = _
    unfold zgate cand
    rw [hz, hn, hh]
    push_cast
    rfl

/-- A step of the recurrent encoder, written as a step from the candidate. -/
theorem hid_step (b : Fin 4) (t : ℕ) (j : Fin 64) :
    hid a b (t + 1) j = cand a b ⟨min t 167, by omega⟩ (hid a b t) j
      + zgate a b ⟨min t 167, by omega⟩ (hid a b t) j * (hid a b t j - cand a b ⟨min t 167, by omega⟩ (hid a b t) j) := by
  have hn := tanh_real (gIn a b ⟨min t 167, by omega⟩ (col 2 j)
    + logi (gIn a b ⟨min t 167, by omega⟩ (col 0 j) + gHid a (hid a b t) (col 0 j)) * gHid a (hid a b t) (col 2 j))
  exact (mean_step (logi_real _) (hn.imp fun r h => h.2.2) (hid_real a b t j)).symm

/-- The rows, padded with zeros. -/
def rowP (b : Fin 4) (r : Fin 2304) (j : Fin 64) : EReal := if h : r.val < 2216 then row a b ⟨r.val, h⟩ j else 0

/-- The adjacency of the padded rows. -/
def adjP (b : Fin 4) (r m : Fin 2304) : EReal := Ideal.tanh (max (∑ j : Fin 64, rowP a b r j * rowP a b m j) 0)

/-- Row `n` of the graph among the padded ones. -/
def up (n : Fin 2216) : Fin 2304 := ⟨n.val, by omega⟩

theorem rowP_up (b : Fin 4) (n : Fin 2216) (j : Fin 64) : rowP a b (up n) j = row a b n j := dif_pos n.isLt

theorem adjP_up (b : Fin 4) (n m : Fin 2216) : adjP a b (up n) (up m) = adj a b n m := by
  unfold adjP adj
  simp only [rowP_up]

/-- A row of zeros is adjacent to nothing. -/
theorem adjP_pad (b : Fin 4) (r m : Fin 2304) (h : ¬ m.val < 2216) : adjP a b r m = 0 := by
  unfold adjP
  rw [Finset.sum_eq_zero fun j _ => by rw [rowP, rowP, dif_neg h, mul_zero], max_self, tanh_zero]

/-- A sum weighted by the padded adjacency is the sum over the graph's rows. -/
theorem sum_adjP (b : Fin 4) (n : Fin 2216) (f : Fin 2304 → EReal) :
    ∑ m : Fin 2304, adjP a b (up n) m * f m = ∑ m : Fin 2216, adj a b n m * f (up m) := by
  rw [sum_cut 2216 88 rfl, Finset.sum_eq_zero (s := (Finset.univ : Finset (Fin 88))), add_zero]
  · exact Finset.sum_congr rfl fun m _ => by rw [← adjP_up]; rfl
  · intro i _
    rw [adjP_pad a b _ _ (by simp), zero_mul]

/-- The adjacency's entries are nonnegative numbers. -/
theorem adj_real (b : Fin 4) (n m : Fin 2216) : ∃ r : ℝ, 0 ≤ r ∧ adj a b n m = r := by
  obtain ⟨r, -, -, hr⟩ := tanh_real (max (∑ j : Fin 64, row a b n j * row a b m j) 0)
  refine ⟨r, ?_, hr⟩
  have h : (0 : EReal) ≤ Ideal.tanh (max (∑ j : Fin 64, row a b n j * row a b m j) 0) := tanh_nonneg (le_max_right _ _)
  rw [hr] at h
  exact_mod_cast h

/-- The mixed rows: the product with the padded adjacency, times the reciprocal of the degree. -/
theorem mix_pad (b : Fin 4) (n : Fin 2216) (f : Fin 2304 → EReal) :
    (∑ m : Fin 2304, adjP a b (up n) m * f m) * Ideal.div 1 (∑ m : Fin 2304, adjP a b (up n) m * 1 + eps)
      = ∑ m : Fin 2216, Ideal.div (adj a b n m) (deg a b n) * f (up m) := by
  rw [sum_adjP, sum_adjP a b n fun _ => 1]
  simp only [mul_one]
  exact sum_div _ _ _ (sum_real_add_eps _ _ (adj_real a b n))

end Cert.Net
-- ==== Proof.K.KNet.lean ====
module

public import proofs.«01_k».proof.Proof.K.KVal
public import proofs.«01_k».proof.Proof.K.KHost
public import proofs.«01_k».proof.Proof.N.Pad

/-! The kernel's buffers hold the network's rows: the spatial rows, the states of the scan, the first layer's rows and the
    result's blocks. -/

@[expose] public section

set_option maxRecDepth 16384

noncomputable section

namespace Cert.KernelIdeal.Hand

open Cert.KernelIdeal.Gen Cert.Net
open Idealize.ShloMosaic Idealize.ShloMosaic.TcCoe Idealize.ShloMosaic.Tactic Idealize.SL.Sem

variable (m : (ℓ : Loc nD τ sig) → Buf (Elt Ideal) ℓ) (c : Dev nD)

/-- The spatial rows. -/
theorem spat_net (b : Fin 4) (n : Fin 2048) (j : Fin 64) :
    spat (iblk m c 0 pt0) (iblk m c 2 pt0) (iblk m c 3 pt0) (iblk m c 4 pt0) (iblk m c 5 pt0) (iblk m c 6 pt0) (iblk m c 7 pt0) b (ix2 n j)
      = sp (argsK m c) b n j := by
  rw [spat_apply, ← sp_parts]
  simp only [blk_x, blk_se, blk_w1x, blk_w1s, blk_b1, blk_w2, blk_b2]

/-- A sum over the augmented time embedding: the embedding's part and the bias. -/
theorem sum_aug (te w : Fin 32 → EReal) (bias : EReal) :
    ∑ q : Fin 33, (if h : q.val < 32 then te ⟨q.val, h⟩ else 1) * (if h : q.val < 32 then w ⟨q.val, h⟩ else bias)
      = ∑ q : Fin 32, te q * w q + bias := by
  rw [sum_cut 32 1 rfl]
  refine congrArg₂ (fun v w : EReal => v + w) (Finset.sum_congr rfl fun q _ => ?_) ?_
  · rw [dif_pos q.isLt, dif_pos q.isLt]
  · simp

/-- The twelve gate inputs, from the blocks. -/
def gatesAt : Fin 12 → Vec Ideal S168x64 .f32 :=
  gis (iblk m c 0 pt0) (iblk m c 1 pt0) (iblk m c 8 pt0) (iblk m c 9 pt0) (iblk m c 10 pt0) (iblk m c 11 pt0)
    (iblk m c 12 pt0) (iblk m c 13 pt0) (iblk m c 14 pt0) (iblk m c 15 pt0) (iblk m c 16 pt0) (iblk m c 17 pt0)

/-- Gate `g`'s inputs with the bias that the kernel folds into them. -/
theorem gi_net (wx : Vec Ideal S2048x64 .f32) (wm : Vec Ideal S4x64 .f32) (te : Vec Ideal S33x64 .f32) (g : Fin 3) (bias : Fin 64 → EReal)
    (hx : ∀ q j, wx (ix2 q j) = (argsK m c).wih (col g j) ⟨q.val, by omega⟩)
    (hm : ∀ q j, wm (ix2 q j) = (argsK m c).wih (col g j) ⟨2048 + q.val, by omega⟩)
    (ht : ∀ q j, te (ix2 q j) = if h : q.val < 32 then (argsK m c).wih (col g j) ⟨2052 + q.val, by omega⟩ else (argsK m c).bih (col g j) + bias j)
    (b : Fin 4) (t : Fin 168) (j : Fin 64) :
    gi (iblk m c 0 pt0) (iblk m c 1 pt0) (iblk m c 8 pt0) wx wm te b (ix2 t j) = gIn (argsK m c) b t (col g j) + bias j := by
  rw [gi_apply, ← gIn_parts]
  simp only [blk_x, blk_mark, blk_tm, hx, hm, ht]
  rw [sum_aug ((argsK m c).te t) (fun q => (argsK m c).wih (col g j) ⟨2052 + q.val, by omega⟩) ((argsK m c).bih (col g j) + bias j)]
  simp only [add_assoc]

/-! The gates' inputs among the twelve, by batch. -/

section
variable (x mk tm wxr wxz wxn wmr wmz wmn ter tez ten) (t : ℕ) (b : Fin 4) (j : Fin 64)

theorem gateOf_r : gateOf (gis x mk tm wxr wxz wxn wmr wmz wmn ter tez ten) 0 t b j = gi x mk tm wxr wmr ter b (ix2 ⟨min t 167, by omega⟩ j) :=
  match b with | 0 => rfl | 1 => rfl | 2 => rfl | 3 => rfl

theorem gateOf_z : gateOf (gis x mk tm wxr wxz wxn wmr wmz wmn ter tez ten) 1 t b j = gi x mk tm wxz wmz tez b (ix2 ⟨min t 167, by omega⟩ j) :=
  match b with | 0 => rfl | 1 => rfl | 2 => rfl | 3 => rfl

theorem gateOf_n : gateOf (gis x mk tm wxr wxz wxn wmr wmz wmn ter tez ten) 2 t b j = gi x mk tm wxn wmn ten b (ix2 ⟨min t 167, by omega⟩ j) :=
  match b with | 0 => rfl | 1 => rfl | 2 => rfl | 3 => rfl

end

theorem gate_r (t : ℕ) (b : Fin 4) (j : Fin 64) :
    gateOf (gatesAt m c) 0 t b j = gIn (argsK m c) b ⟨min t 167, by omega⟩ (col 0 j) + (argsK m c).bhh (col 0 j) := by
  have h := gi_net m c (iblk m c 9 pt0) (iblk m c 12 pt0) (iblk m c 15 pt0) 0 (fun j => (argsK m c).bhh (col 0 j))
    (blk_wxr m c pt0) (blk_wmr m c pt0) (blk_ter m c pt0) b ⟨min t 167, by omega⟩ j
  exact (gateOf_r ..).trans h

theorem gate_z (t : ℕ) (b : Fin 4) (j : Fin 64) :
    gateOf (gatesAt m c) 1 t b j = gIn (argsK m c) b ⟨min t 167, by omega⟩ (col 1 j) + (argsK m c).bhh (col 1 j) := by
  have h := gi_net m c (iblk m c 10 pt0) (iblk m c 13 pt0) (iblk m c 16 pt0) 1 (fun j => (argsK m c).bhh (col 1 j))
    (blk_wxz m c pt0) (blk_wmz m c pt0) (blk_tez m c pt0) b ⟨min t 167, by omega⟩ j
  exact (gateOf_z ..).trans h

theorem gate_n (t : ℕ) (b : Fin 4) (j : Fin 64) :
    gateOf (gatesAt m c) 2 t b j = gIn (argsK m c) b ⟨min t 167, by omega⟩ (col 2 j) := by
  have h := gi_net m c (iblk m c 11 pt0) (iblk m c 14 pt0) (iblk m c 17 pt0) 2 (fun _ => 0)
    (blk_wxn m c pt0) (blk_wmn m c pt0) (fun q j => by rw [blk_ten, add_zero]) b ⟨min t 167, by omega⟩ j
  rw [add_zero] at h
  exact (gateOf_n ..).trans h

/-- The states of the scan. -/
def stateAt (t : ℕ) : FVec Ideal S4x64 .f32 :=
  hst (gatesAt m c) (iblk m c 18 pt0) (iblk m c 19 pt0) (iblk m c 20 pt0) (iblk m c 21 pt0) t

theorem state_net (b : Fin 4) : ∀ (t : ℕ) (j : Fin 64), stateAt m c t (ix2 b j) = hid (argsK m c) b t j
  | 0, j => by
    show k0_pay51 (F := Ideal) (ix2 b j) = 0
    pointwise [k0_pay51]
  | t + 1, j => by
    have ih : ∀ k : Fin 64, stateAt m c t (ix2 b k) = hid (argsK m c) b t k := state_net b t
    show gruStep (gatesAt m c) (iblk m c 18 pt0) (iblk m c 19 pt0) (iblk m c 20 pt0) (iblk m c 21 pt0) t (stateAt m c t) (ix2 b j) = _
    rw [gruStep_apply, hid_step]
    simp only [gate_r, gate_z, gate_n, blk_whr, blk_whz, blk_whn, blk_bhn, ih]
    unfold cand zgate gHid
    simp only [add_assoc, add_comm ((argsK m c).bhh _)]

/-- The states are stored as they are. -/
theorem pay57_apply (X : Vec Ideal S168x64 .f32) (t : Fin 168) (j : Fin 64) : k0_pay57 X (ValueIdx.ix2 t j) = (X (ValueIdx.ix2 t j) : EReal) := by
  pointwise [k0_pay57]

/-- A batch's feature columns: its spatial rows, its states and rows of zeros. -/
theorem feat_apply (S : Fin 4 → Vec Ideal S2048x64 .bf16) (T : Fin 4 → Vec Ideal S168x64 .f32) (b : Fin 4) (r : Fin 2304) (j : Fin 64) :
    blk64 (feat S T) b (ix2 r j) = if h : r.val < 2048 then S b (ix2 ⟨r.val, h⟩ j)
      else if h' : r.val < 2216 then T b (ix2 ⟨r.val - 2048, by omega⟩ j) else (0 : EReal) := by
  have hd : (2304 * b.val + r.val) / 2304 = b.val := by omega
  have hm : (2304 * b.val + r.val) % 2304 = r.val := by omega
  have hc : ((ValueIdx.ix2 (⟨2304 * b.val + r.val, by omega⟩ : Fin 9216) (⟨j.val, by omega⟩ : Fin 65)) 1).val < 64 := j.isLt
  show feat S T (ValueIdx.ix2 (⟨2304 * b.val + r.val, _⟩ : Fin 9216) (⟨j.val, _⟩ : Fin 65)) = _
  unfold feat
  refine (dif_pos hc).trans ?_
  by_cases h : r.val < 2048
  · rw [dif_pos h]
    refine (dif_pos (show (2304 * b.val + r.val) % 2304 < 2048 by omega)).trans ?_
    rw [ix2_eq_valueIdx (⟨r.val, h⟩ : Fin 2048) j]
    exact congrArg₂ (fun b' n => S b' (ValueIdx.ix2 n j)) (Fin.ext hd) (Fin.ext hm)
  · rw [dif_neg h]
    refine (dif_neg (show ¬ (2304 * b.val + r.val) % 2304 < 2048 by omega)).trans ?_
    by_cases h' : r.val < 2216
    · rw [dif_pos h']
      refine (dif_pos (show (2304 * b.val + r.val) % 2304 < 2216 by omega)).trans ?_
      rw [ix2_eq_valueIdx (⟨r.val - 2048, by omega⟩ : Fin 168) j]
      have e0 : (⟨(2304 * b.val + r.val) / 2304, by omega⟩ : Fin 4) = b := Fin.ext hd
      have e1 : (⟨(2304 * b.val + r.val) % 2304 - 2048, by omega⟩ : Fin 168) = ⟨r.val - 2048, by omega⟩ :=
        Fin.ext (congrArg (fun v => v - 2048) hm)
      exact (pay57_apply _ _ _).trans <| congrArg₂ (fun b' n => (T b' (ValueIdx.ix2 n j) : EReal)) e0 e1
    · rw [dif_neg h']
      refine (dif_neg (show ¬ (2304 * b.val + r.val) % 2304 < 2216 by omega)).trans ?_
      exact ofBits_zero_bf16

/-- Batch `b`'s feature columns are the padded rows. -/
theorem feat_rows (b : Fin 4) (r : Fin 2304) (j : Fin 64) : blk64 (featAt m c) b (ix2 r j) = rowP (argsK m c) b r j := by
  unfold featAt rowP row
  rw [feat_apply]
  by_cases h : r.val < 2048
  · rw [dif_pos h, dif_pos (show r.val < 2216 by omega), dif_pos h, spat_net]
  · rw [dif_neg h]
    by_cases h' : r.val < 2216
    · rw [dif_pos h', dif_pos h', dif_neg h]
      show hst _ _ _ _ _ _ (ValueIdx.ix2 b j) = _
      rw [← ix2_eq_valueIdx]
      exact state_net m c b _ j
    · rw [dif_neg h', dif_neg h']

/-- The column behind them is one. -/
theorem feat_ones (S : Fin 4 → Vec Ideal S2048x64 .bf16) (T : Fin 4 → Vec Ideal S168x64 .f32) (b : Fin 4) (r : Fin 2304) :
    blk65 (feat S T) b (ix2 r 64) = (1 : EReal) := by
  have hc : ¬ ((ValueIdx.ix2 (⟨2304 * b.val + r.val, by omega⟩ : Fin 9216) (64 : Fin 65)) 1).val < 64 := show ¬ (64 : Fin 65).val < 64 by decide
  show feat S T (ValueIdx.ix2 (⟨2304 * b.val + r.val, _⟩ : Fin 9216) (64 : Fin 65)) = _
  unfold feat
  refine (dif_neg hc).trans ?_
  exact ofBits_one_bf16

/-- The adjacency of batch `b`'s rows. -/
theorem adj_net (b : Fin 4) (r s : Fin 2304) : k0_pay60 (blk64 (featAt m c) b) (ix2 r s) = adjP (argsK m c) b r s := by
  rw [pay60_apply]
  unfold adjP
  simp only [feat_rows]

/-- The first layer's rows. -/
theorem layer1_net (b : Fin 4) (t : Fin cfg0.N) (n : Fin 2216) (k : Fin 64) :
    k0_pay62 (blk64 (featAt m c) b) (blk65 (featAt m c) b) (iblk m c 22 t) (iblk m c 23 t) (ix2 (up n) k) = out1 (argsK m c) b n k := by
  rw [pay62_apply]
  simp only [blk_g1, blk_gb1, adj_net]
  unfold out1 mix
  refine congrArg (fun v => elu (v + (argsK m c).gb1 k)) (Finset.sum_congr rfl fun j _ => congrArg (· * (argsK m c).g1 j k) ?_)
  have h1 : ∀ r : Fin 2304, blk65 (featAt m c) b (ix2 r 64) = (1 : EReal) := fun r => feat_ones _ _ b r
  have hj : ∀ r : Fin 2304, blk65 (featAt m c) b (ix2 r ⟨j.val, by omega⟩) = rowP (argsK m c) b r j := fun r => feat_rows m c b r j
  simp only [h1, hj]
  rw [mix_pad]
  simp only [rowP_up]

/-- The augmented rows. -/
theorem aug_apply (H : Vec Ideal S2304x64 .bf16) (r : Fin 2304) (j : Fin 64) : aug H (ix2 r ⟨j.val, by omega⟩) = H (ix2 r j) := by
  unfold aug
  refine (dif_pos (show j.val < 64 from j.isLt)).trans ?_
  rw [ix2_eq_valueIdx r j]
  rfl

theorem aug_ones (H : Vec Ideal S2304x64 .bf16) (r : Fin 2304) : aug H (ix2 r 64) = (1 : EReal) := by
  unfold aug
  refine (dif_neg (show ¬ (64 : Fin 65).val < 64 by decide)).trans ?_
  exact ofBits_one_bf16

/-- The second layer's rows, from any point's first layer. -/
theorem layer2_net (b : Fin 4) (s t : Fin cfg0.N) (n : Fin 2216) (k : Fin 64) :
    k0_pay5 (k0_pay60 (blk64 (featAt m c) b)) (aug (k0_pay63 (blk64 (featAt m c) b) (blk65 (featAt m c) b) (iblk m c 22 s) (iblk m c 23 s)))
      (iblk m c 24 t) (iblk m c 25 t) (ix3 0 (up n) k) = out (argsK m c) b n k := by
  rw [pay5_apply]
  simp only [blk_g2, blk_gb2, adj_net, aug_apply, aug_ones]
  unfold out
  refine congrArg (fun v => v + (argsK m c).gb2 k) (Finset.sum_congr rfl fun j _ => congrArg (· * (argsK m c).g2 j k) ?_)
  rw [mix_pad]
  unfold mix
  refine Finset.sum_congr rfl fun r _ => congrArg (fun v => Ideal.div (adj (argsK m c) b n r) (deg (argsK m c) b n) * v) ?_
  exact layer1_net m c b s r j

end Cert.KernelIdeal.Hand
-- ==== Proof.K.KOut.lean ====
module

public import proofs.«01_k».proof.Proof.K.KNet
public import proofs.«01_k».proof.Proof.K.Body

/-! The kernel's result array is the network's output. -/

@[expose] public section

set_option maxRecDepth 16384

noncomputable section

namespace Cert.KernelIdeal.Hand

open Cert.KernelIdeal.Gen Cert.Net
open Idealize.ShloMosaic Idealize.ShloMosaic.TcCoe Idealize.ShloMosaic.Tactic Idealize.SL.Sem

variable (m : (ℓ : Loc nD τ sig) → Buf (Elt Ideal) ℓ) (c : Dev nD)

/-- The network's output as an array. -/
def result (a : Args) : (⟨3, ![4, 2216, 64]⟩ : Shape).Idx → EReal := fun i => out a (i 0) (i 1) (i 2)

theorem idx_26 : ∀ t : Fin cfg0.N, win0_26.index t = ![(grid0.coords t 0).val, 0, 0] := (by decide +kernel : ∀ t : Fin grid0.N, _)

/-- The second coordinate of a point where the result's block is written back is one. -/
theorem flush_odd : ∀ t : Fin cfg0.N, (cfg0.win 26).flush t = true → ¬ t.val % 2 = 0 := (by decide +kernel : ∀ t : Fin grid0.N, _)

/-- The first layer's point of a batch is of the same batch. -/
theorem evn_coords : ∀ t : Fin cfg0.N, grid0.coords (evn t.val t.isLt) 0 = grid0.coords t 0 := (by decide +kernel : ∀ t : Fin grid0.N, _)

/-- The block of a second layer's point is the batch's output. -/
theorem out_apply (t : Fin cfg0.N) (ho : ¬ t.val % 2 = 0) (n : Fin 2216) (k : Fin 64) :
    outAt m c t (ix3 0 (up n) k) = out (argsK m c) (grid0.coords t 0) n k := by
  unfold outAt adjAt hidAt
  rw [if_neg ho, evn_coords]
  exact layer2_net m c _ _ t n k

/-- The part of the block inside the array. -/
theorem size_26 : ∀ (t : Fin cfg0.N) (a : Fin 3), ((cfg0.win 26).xblock (cfg0.grid.coords t)).size a = ![1, 2216, 64] a :=
  (by decide +kernel : ∀ (t : Fin grid0.N) (a : Fin 3), _)

/-- An index with these three coordinates. -/
theorem ix3_of (i : (⟨3, ![4, 2216, 64]⟩ : Shape).Idx) {a : Fin 4} {b : Fin 2216} {k : Fin 64} (ha : (i 0).val = a.val) (hb : (i 1).val = b.val)
    (hk : (i 2).val = k.val) : i = ix3 a b k := by
  funext x
  apply Fin.ext
  match x with
  | 0 => exact ha
  | 1 => exact hb
  | 2 => exact hk

/-- Where an element of the result's block sits in the array, axis by axis. -/
theorem emb_0 (t : Fin cfg0.N) (y : ((cfg0.win 26).xblock (cfg0.grid.coords t)).Idx) (h0 : (y 0).val < 1) :
    ((win0_26.blk t).view.emb y 0).val = (grid0.coords t 0).val := by
  blk_simp [idx_26]
  omega

theorem emb_1 (t : Fin cfg0.N) (y : ((cfg0.win 26).xblock (cfg0.grid.coords t)).Idx) :
    ((win0_26.blk t).view.emb y 1).val = (y 1).val :=
  Pipeline.Window.rect_emb_val_of_index_zero win0_26 t 1 (by rw [idx_26]; rfl) y

theorem emb_2 (t : Fin cfg0.N) (y : ((cfg0.win 26).xblock (cfg0.grid.coords t)).Idx) :
    ((win0_26.blk t).view.emb y 2).val = (y 2).val :=
  Pipeline.Window.rect_emb_val_of_index_zero win0_26 t 2 (by rw [idx_26]; rfl) y

/-- The result array. -/
theorem arr_out : (dats m 0 c).arrAt 26 cfg0.N = result (argsK m c) := by
  refine (dats m 0 c).arrAt_eq_of_covers 26 _ (by decide +kernel) fun t hf y => ?_
  have ho := flush_odd t hf
  blk_simp
  rw [after_26]
  have h0 : (y 0).val < 1 := lt_of_lt_of_eq (y 0).isLt (size_26 t 0)
  have h1 : (y 1).val < 2216 := lt_of_lt_of_eq (y 1).isLt (size_26 t 1)
  have h2 : (y 2).val < 64 := lt_of_lt_of_eq (y 2).isLt (size_26 t 2)
  have e : (cfg0.win 26).xinj (cfg0.grid.coords t) y = ix3 0 (up ⟨(y 1).val, h1⟩) ⟨(y 2).val, h2⟩ := by
    funext a
    apply Fin.ext
    match a with
    | 0 => show (y 0).val = 0; omega
    | 1 => rfl
    | 2 => rfl
  have e' : (win0_26.blk t).view.emb y = ix3 (grid0.coords t 0) ⟨(y 1).val, h1⟩ ⟨(y 2).val, h2⟩ := by
    refine (ix3_of _ (a := grid0.coords t 0) (b := ⟨(y 1).val, h1⟩) (k := ⟨(y 2).val, h2⟩) (emb_0 t y h0) (emb_1 t y) (emb_2 t y))
  rw [e, e']
  exact out_apply m c t ho _ _

/-- What the kernel leaves in its result array: the network's output. -/
theorem run_out (ρ) : θ_run defs (onTc (τ := τ) (main (F := Ideal))) ⟨m, fun _ => 0, ρ⟩ fun r => ∀ c : Dev nD,
    r.2.mem ((c : Thread nD τ).loc main_v37) = result (argsK m c) := by
  refine (θ_run defs _ _).mono (fun r h c => ?_) (run_main m ρ)
  exact ((h c).1 26).trans (arr_out m c)

end Cert.KernelIdeal.Hand
-- ==== Proof.K.RPre.lean ====
module

public import proofs.«01_k».proof.Proof.K.RefRun
public import proofs.«01_k».proof.Proof.N.Pad
public import Idealize.ShloMosaic.Lib.Pointwise
public import Idealize.ShloMosaic.Lib.StableHlo.RunRead

/-! What the reference's operations before the loop leave, entry by entry, from the arguments. -/

@[expose] public section

set_option maxRecDepth 16384

noncomputable section

namespace Cert.ReferenceIdeal.Hand

open Cert.ReferenceIdeal Cert.ReferenceIdeal.Gen Cert.ReferenceIdeal.Value Cert.Net
open Idealize.ShloMosaic Idealize.ShloMosaic.TcCoe Idealize.ShloMosaic.StableHlo Idealize.SL.Sem

variable (m : (ℓ : Loc nD τ sig) → Buf (Elt Ideal) ℓ) (c : Dev nD)

/-- The network's arguments, from the argument arrays. -/
def argsR : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))

/-- A buffer's contents at the loop's entry. -/
abbrev ent (r : Ref sig .tc) := entryContents (preI (F := Ideal)) m c (Proc.devRef .tc r)

/-! The operations before the loop, stretch by stretch, from any contents. -/

section
variable (V : Valuation τ sig (Elt Ideal))

theorem pre1_v11 : after (hostOps0_1 (F := Ideal)) V (Proc.devRef .tc main_v11) =
    select (V (Proc.devRef .tc main_v9)) (V (Proc.devRef .tc main_v7)) (V (Proc.devRef .tc main_v10)) := rfl

theorem pre2_v18 : after (hostOps0_2 (F := Ideal)) V (Proc.devRef .tc main_v18) =
    concatenate S4x168x2084 2 [⟨S4x168x2048, V (Proc.devRef .tc main_arg0)⟩, ⟨S4x168x4, V (Proc.devRef .tc main_arg1)⟩,
      ⟨S4x168x32, broadcastInDim S4x168x32 ![0, 1, 2] bcast_S1x168x32_S4x168x32_0_1_2
        (broadcastInDim S1x168x32 ![1, 2] bcast_S168x32_S1x168x32_1_2 (V (Proc.devRef .tc main_arg7)))⟩]
      concatenates_S4x168x2048_S4x168x4_S4x168x32_S4x168x2084_d2 := by
  after_reads_simp
  rfl

end

/-- The spatial encoder's hidden layer, before its activation. -/
theorem ent_v7 (b : Fin 4) (n : Fin 2048) (k : Fin 64) : (after (hostOps0 (F := Ideal)) (launchContents m c) (Proc.devRef .tc main_v7) (ix3 b n k) : EReal) =
    ∑ q : Fin 200, spIn (argsR m c) b n q * (argsR m c).w1 q k + (argsR m c).b1 k := by
  after_reads_simp
  pointwise []
  after_reads_simp
  pointwise []
  rw [sum_cut 168 32 rfl]
  refine congrArg₂ (fun v w : EReal => v + w) (congrArg₂ (fun v w : EReal => v + w)
    (Finset.sum_congr rfl fun t _ => ?_) (Finset.sum_congr rfl fun e _ => ?_)) rfl
  · rw [spIn, dif_pos t.isLt]
    rfl
  · rw [spIn, dif_neg (by simp)]
    simp only [Nat.add_sub_cancel_left]
    rfl

/-- The spatial encoder's hidden layer. -/
theorem ent_v11 (b : Fin 4) (n : Fin 2048) (k : Fin 64) :
    (after (hostOps0_1 (F := Ideal)) (after hostOps0 (launchContents m c)) (Proc.devRef .tc main_v11) (ix3 b n k) : EReal) = spHid (argsR m c) b n k := by
  have e9 : after (hostOps0 (F := Ideal)) (launchContents m c) (Proc.devRef .tc main_v9) =
      cmpf (F := Ideal) (s := S4x2048x64) (φ := .f32) .ogt (after (hostOps0 (F := Ideal)) (launchContents m c) (Proc.devRef .tc main_v7))
        (broadcastInDim S4x2048x64 ![] bcast_S_S4x2048x64 (constant (F := Ideal) S_ .f32 0x00000000#32)) := by after_reads_simp
  have e10 : after (hostOps0 (F := Ideal)) (launchContents m c) (Proc.devRef .tc main_v10) =
      Host.expm1 (F := Ideal) (s := S4x2048x64) (φ := .f32) (after (hostOps0 (F := Ideal)) (launchContents m c) (Proc.devRef .tc main_v7)) := by after_reads_simp
  unfold spHid
  rw [← ent_v7, pre1_v11, e9, e10]
  generalize after (hostOps0 (F := Ideal)) (launchContents m c) (Proc.devRef .tc main_v7) = X
  unfold elu
  pointwise []

/-- The spatial rows. -/
theorem ent_v15 (b : Fin 4) (n : Fin 2048) (j : Fin 64) : (ent m c main_v15 (ix3 b n j) : EReal) = sp (argsR m c) b n j := by
  unfold ent entryContents preI sp
  simp only [afterL_cons, afterL_nil, ← ent_v11]
  generalize hV : after (hostOps0_1 (F := Ideal)) (after hostOps0 (launchContents m c)) = V
  have e5 : V (Proc.devRef .tc main_arg5) = launchContents m c (Proc.devRef .tc main_arg5) := by rw [← hV]; after_reads_simp
  have e6 : V (Proc.devRef .tc main_arg6) = launchContents m c (Proc.devRef .tc main_arg6) := by rw [← hV]; after_reads_simp
  after_reads_simp
  pointwise []
  rw [e5, e6]
  rfl

/-- The time steps' rows. -/
theorem ent_0 (t : Fin 168) (b : Fin 4) (q : Fin 2084) : (ent m c main_v22_0 (ix3 t b q) : EReal) = tmIn (argsR m c) b t q := by
  unfold ent entryContents preI
  simp only [afterL_cons, afterL_nil]
  generalize hV : after (hostOps0_1 (F := Ideal)) (after hostOps0 (launchContents m c)) = V
  have e0 : V (Proc.devRef .tc main_arg0) = launchContents m c (Proc.devRef .tc main_arg0) := by rw [← hV]; after_reads_simp
  have e1 : V (Proc.devRef .tc main_arg1) = launchContents m c (Proc.devRef .tc main_arg1) := by rw [← hV]; after_reads_simp
  have e7 : V (Proc.devRef .tc main_arg7) = launchContents m c (Proc.devRef .tc main_arg7) := by rw [← hV]; after_reads_simp
  have e : after (hostOps0_2 (F := Ideal)) V (Proc.devRef .tc main_v22_0) =
      transpose S168x4x2084 [1, 0, 2] (after (hostOps0_2 (F := Ideal)) V (Proc.devRef .tc main_v18)) transposes_S4x168x2084_S168x4x2084_1_0_2 := by
    after_reads_simp
    rfl
  rw [e, pre2_v18, e0, e1, e7]
  pointwise []
  unfold tmIn
  by_cases h : q.val < 2048
  · rw [dif_pos h, dif_pos h]
    rfl
  · rw [dif_neg h, dif_neg h]
    by_cases h' : q.val < 2052
    · rw [dif_pos h', dif_pos (by omega)]
      rfl
    · rw [dif_neg h', dif_neg (by omega)]
      rfl

theorem ent_1 (g : Fin 192) (q : Fin 2084) : (ent m c main_v22_1 (ix2 g q) : EReal) = (argsR m c).wih g q := by
  unfold ent entryContents preI
  simp only [afterL_cons, afterL_nil]
  after_reads_simp; pointwise []; rfl

theorem ent_2 (g : Fin 192) : (ent m c main_v22_2 (ix1 g) : EReal) = (argsR m c).bih g := by
  unfold ent entryContents preI
  simp only [afterL_cons, afterL_nil]
  after_reads_simp; pointwise []; rfl

theorem ent_3 (g : Fin 192) (k : Fin 64) : (ent m c main_v22_3 (ix2 g k) : EReal) = (argsR m c).whh g k := by
  unfold ent entryContents preI
  simp only [afterL_cons, afterL_nil]
  after_reads_simp; pointwise []; rfl

theorem ent_4 (g : Fin 192) : (ent m c main_v22_4 (ix1 g) : EReal) = (argsR m c).bhh g := by
  unfold ent entryContents preI
  simp only [afterL_cons, afterL_nil]
  after_reads_simp; pointwise []; rfl

theorem ent_6 (b : Fin 4) (j : Fin 64) : (ent m c main_v22_6 (ix2 b j) : EReal) = (0 : EReal) := by
  unfold ent entryContents preI
  simp only [afterL_cons, afterL_nil]
  after_reads_simp; simp only [id_eq]; pointwise []

end Cert.ReferenceIdeal.Hand
-- ==== Proof.K.RLoop.lean ====
module

public import proofs.«01_k».proof.Proof.K.RPre

/-! What the reference's loop leaves: after `k` trips the counter is `k`, the carried state is the recurrent encoder's after
    `k` steps, and the collected rows up to `k` are its states. -/

@[expose] public section

set_option maxRecDepth 16384

noncomputable section

namespace Cert.ReferenceIdeal.Hand

open Cert.ReferenceIdeal Cert.ReferenceIdeal.Gen Cert.ReferenceIdeal.Value Cert.Net
open Idealize.ShloMosaic Idealize.ShloMosaic.TcCoe Idealize.ShloMosaic.StableHlo Idealize.SL.Sem

section
variable (V : Valuation τ sig (Elt Ideal)) (a : Args) (k : ℕ)

/-- The loop's carried buffers before trip `k`. -/
structure At : Prop where
  rows : ∀ t b q, (V (Proc.devRef .tc main_v22_0) (ix3 t b q) : EReal) = tmIn a b t q
  wih : ∀ g q, (V (Proc.devRef .tc main_v22_1) (ix2 g q) : EReal) = a.wih g q
  bih : ∀ g, (V (Proc.devRef .tc main_v22_2) (ix1 g) : EReal) = a.bih g
  whh : ∀ g k, (V (Proc.devRef .tc main_v22_3) (ix2 g k) : EReal) = a.whh g k
  bhh : ∀ g, (V (Proc.devRef .tc main_v22_4) (ix1 g) : EReal) = a.bhh g
  ctr : V (Proc.devRef .tc main_v22_5) = fun _ => BitVec.ofNat 32 k
  st : ∀ b j, (V (Proc.devRef .tc main_v22_6) (ix2 b j) : EReal) = hid a b k j
  out : ∀ (t : Fin 168) b j, t.val < k → (V (Proc.devRef .tc main_v22_7) (ix3 t b j) : EReal) = hid a b (t.val + 1) j

variable {V a k}

/-- The slice at the counter starts at the counter. -/
theorem start_eq (h : At V a k) (hk : k < 168) :
    (fun i => (((![V (Proc.devRef .tc main_v22_5), constantI S_ 32 0#32, constantI S_ 32 0#32] :
      Fin 3 → (⟨S_, .i32⟩ : BufTy).Contents (Elt Ideal))) i (Shape.Idx.first h_S_)).toInt) = fun i => ((![k, 0, 0] : Fin 3 → ℕ) i : Int) := by
  funext i
  rw [h.ctr]
  match i with
  | 0 =>
    show (BitVec.ofNat 32 k).toInt = (k : Int)
    rw [BitVec.toInt_eq_toNat_of_lt] <;> simp only [BitVec.toNat_ofNat] <;> omega
  | 1 => rfl
  | 2 => rfl

/-- A start inside the array is its own clamp. -/
theorem clamp_eq (hk : k < 168) (n : ℕ) (ht : (⟨3, ![1, 4, n]⟩ : Shape).rank = (⟨3, ![168, 4, n]⟩ : Shape).rank) (i : Fin 3) :
    Host.clampedStart ⟨3, ![168, 4, n]⟩ ⟨3, ![1, 4, n]⟩ ht (fun i => ((![k, 0, 0] : Fin 3 → ℕ) i : Int)) i = (![k, 0, 0] : Fin 3 → ℕ) i := by
  refine Host.clampedStart_of_le ht _ i _ rfl ?_
  match i with
  | 0 => show k + 1 ≤ 168; omega
  | 1 => show 0 + 4 ≤ 4; omega
  | 2 => show 0 + n ≤ n; omega

/-- The gates' input part of the row a slice starts at. -/
theorem row_gates (hk : k < 168) (x : FVec Ideal S168x4x2084 .f32) (w : FVec Ideal S192x2084 .f32) (u : FVec Ideal S192 .f32)
    (start : Fin 3 → Int) (hs : start = fun i => ((![k, 0, 0] : Fin 3 → ℕ) i : Int)) (b : Fin 4) (g : Fin 192) :
    (addf (Host.dotGeneral dot_S4x2084_S2084x192_S4x192_1_0_0_1_n_n none
      (shapeCast S4x2084 (Host.dynamicSlice S1x4x2084 x start sliceFits_S168x4x2084_S1x4x2084) shapeCasts_S1x4x2084_S4x2084)
      (transpose S2084x192 [1, 0] w transposes_S192x2084_S2084x192_1_0))
      (broadcastInDim S4x192 ![0, 1] bcast_S1x192_S4x192_0_1 (broadcastInDim S1x192 ![1] bcast_S192_S1x192_1 u)) (ix2 b g) : EReal) =
      ∑ q : Fin 2084, x (ix3 ⟨k, hk⟩ b q) * w (ix2 g q) + u (ix1 g) := by
  subst hs
  pointwise []
  have c0 : Host.clampedStart S168x4x2084 S1x4x2084 rfl (fun i => ((![k, 0, 0] : Fin 3 → ℕ) i : Int)) 0 = k := clamp_eq hk 2084 rfl 0
  have c1 : Host.clampedStart S168x4x2084 S1x4x2084 rfl (fun i => ((![k, 0, 0] : Fin 3 → ℕ) i : Int)) 1 = 0 := clamp_eq hk 2084 rfl 1
  have c2 : Host.clampedStart S168x4x2084 S1x4x2084 rfl (fun i => ((![k, 0, 0] : Fin 3 → ℕ) i : Int)) 2 = 0 := clamp_eq hk 2084 rfl 2
  simp only [c0, c1, c2, Nat.zero_add]

/-- A row written into an array, at an index. -/
theorem row_written (hk : k < 168) (x : FVec Ideal S168x4x64 .f32) (r : FVec Ideal S4x64 .f32)
    (start : Fin 3 → Int) (hs : start = fun i => ((![k, 0, 0] : Fin 3 → ℕ) i : Int)) (t : Fin 168) (b : Fin 4) (j : Fin 64) :
    (Host.dynamicUpdateSlice x (broadcastInDim S1x4x64 ![1, 2] bcast_S4x64_S1x4x64_1_2 r) start updateFits_S168x4x64_S1x4x64 (ix3 t b j) : EReal) =
      if t.val = k then r (ix2 b j) else x (ix3 t b j) := by
  subst hs
  pointwise []
  have c0 : Host.clampedStart S168x4x64 S1x4x64 rfl (fun i => ((![k, 0, 0] : Fin 3 → ℕ) i : Int)) 0 = k := clamp_eq hk 64 rfl 0
  have c1 : Host.clampedStart S168x4x64 S1x4x64 rfl (fun i => ((![k, 0, 0] : Fin 3 → ℕ) i : Int)) 1 = 0 := clamp_eq hk 64 rfl 1
  have c2 : Host.clampedStart S168x4x64 S1x4x64 rfl (fun i => ((![k, 0, 0] : Fin 3 → ℕ) i : Int)) 2 = 0 := clamp_eq hk 64 rfl 2
  simp only [c0, c1, c2, Nat.sub_zero]
  by_cases e : t.val = k
  · rw [if_pos e, dif_pos (by omega)]
  · rw [if_neg e, dif_neg (by omega)]

/-- The gates' input part of trip `k`. -/
theorem v53 (h : At V a k) (hk : k < 168) (b : Fin 4) (g : Fin 192) : (res_main_while0b_v53 V (ix2 b g) : EReal) = gIn a b ⟨k, hk⟩ g := by
  unfold res_main_while0b_v53
  refine (row_gates hk _ _ _ _ (start_eq h hk) b g).trans ?_
  unfold gIn
  simp only [h.rows, h.wih, h.bih]

/-- The gates' recurrent part of trip `k`. -/
theorem v58 (h : At V a k) (b : Fin 4) (g : Fin 192) : (res_main_while0b_v58 V (ix2 b g) : EReal) = gHid a (hid a b k) g := by
  unfold res_main_while0b_v58
  pointwise []
  simp only [h.st, h.whh, h.bhh]
  rfl

theorem v78 (h : At V a k) (hk : k < 168) (b : Fin 4) (j : Fin 64) : (res_main_while0b_v78 V (ix2 b j) : EReal) = zgate a b ⟨k, hk⟩ (hid a b k) j := by
  unfold res_main_while0b_v78 zgate logi
  rw [← v53 h hk, ← v58 h]
  generalize res_main_while0b_v53 V = X
  generalize res_main_while0b_v58 V = Y
  pointwise []
  rfl

/-- The state after trip `k`. -/
theorem v86 (h : At V a k) (hk : k < 168) (b : Fin 4) (j : Fin 64) : (res_main_while0b_v86 V (ix2 b j) : EReal) = hid a b (k + 1) j := by
  have e : (⟨min k 167, by omega⟩ : Fin 168) = ⟨k, hk⟩ := Fin.ext (by simp; omega)
  rw [hid, e]
  unfold cell cand logi
  rw [← v53 h hk, ← v58 h, ← v53 h hk, ← v58 h, ← h.st, ← v78 h hk]
  unfold res_main_while0b_v86
  generalize res_main_while0b_v53 V = X
  generalize res_main_while0b_v58 V = Y
  generalize res_main_while0b_v78 V = Z
  pointwise []
  simp only [col_zero]
  rfl

/-- A trip. -/
theorem At.step (h : At V a k) (hk : k < 168) : At (STEP V) a (k + 1) where
  rows := by rw [STEP_main_v22_0]; exact h.rows
  wih := by rw [STEP_main_v22_1]; exact h.wih
  bih := by rw [STEP_main_v22_2]; exact h.bih
  whh := by rw [STEP_main_v22_3]; exact h.whh
  bhh := by rw [STEP_main_v22_4]; exact h.bhh
  ctr := by
    rw [STEP_main_v22_5, step_main_v22_5, h.ctr]
    funext i
    show BitVec.ofNat 32 k + 1#32 = BitVec.ofNat 32 (k + 1)
    rw [BitVec.ofNat_add]
  st := by
    intro b j
    rw [STEP_main_v22_6]
    exact v86 h hk b j
  out := by
    intro t b j ht
    rw [STEP_main_v22_7]
    refine (row_written hk _ _ _ (start_eq h hk) t b j).trans ?_
    by_cases e : t.val = k
    · rw [if_pos e, e]
      exact v86 h hk b j
    · rw [if_neg e]
      exact h.out t b j (by omega)

end

variable (m : (ℓ : Loc nD τ sig) → Buf (Elt Ideal) ℓ) (c : Dev nD)

/-- At the loop's entry. -/
theorem at_entry : At (entryContents preI m c) (argsR m c) 0 where
  rows := ent_0 m c
  wih := ent_1 m c
  bih := ent_2 m c
  whh := ent_3 m c
  bhh := ent_4 m c
  ctr := ctr_entry m c
  st := ent_6 m c
  out := fun _ _ _ h => absurd h (Nat.not_lt_zero _)

/-- Before every trip. -/
theorem at_trip : ∀ k, k ≤ 168 → At (STEP^[k] (entryContents preI m c)) (argsR m c) k
  | 0, _ => at_entry m c
  | k + 1, hk => by
    rw [Function.iterate_succ_apply']
    exact (at_trip k (by omega)).step (by omega)

/-- The rows collected by the loop. -/
theorem loop_out (t : Fin 168) (b : Fin 4) (j : Fin 64) :
    (atK m 168 c (Proc.devRef .tc main_v22_7) (ix3 t b j) : EReal) = hid (argsR m c) b (t.val + 1) j := by
  rw [atK_agree m c 168 main_v22_7 (by decide)]
  exact (at_trip m c 168 le_rfl).out t b j t.isLt

end Cert.ReferenceIdeal.Hand
-- ==== Proof.K.RPost.lean ====
module

public import proofs.«01_k».proof.Proof.K.RLoop

/-! What the reference's operations after the loop make of the rows: the two graph convolutions. -/

@[expose] public section

set_option maxRecDepth 16384

noncomputable section

namespace Cert.ReferenceIdeal.Hand

open Cert.ReferenceIdeal Cert.ReferenceIdeal.Gen Cert.ReferenceIdeal.Value Cert.Net
open Idealize.ShloMosaic Idealize.ShloMosaic.TcCoe Idealize.ShloMosaic.StableHlo Idealize.SL.Sem

/-- The rows of the graph, concatenated. -/
theorem rows_apply (x : FVec Ideal S4x2048x64 .f32) (y : FVec Ideal S168x4x64 .f32) (b : Fin 4) (n : Fin 2216) (j : Fin 64) :
    (concatenate S4x2216x64 1 [⟨S4x2048x64, x⟩, ⟨S4x168x64, transpose S4x168x64 [1, 0, 2] y transposes_S168x4x64_S4x168x64_1_0_2⟩]
      concatenates_S4x2048x64_S4x168x64_S4x2216x64_d1 (ix3 b n j) : EReal) =
      if h : n.val < 2048 then x (ix3 b ⟨n.val, h⟩ j) else y (ix3 ⟨n.val - 2048, by omega⟩ b j) := by
  pointwise []

section
variable (V : Valuation τ sig (Elt Ideal))

theorem p3_v24 : after (hostOps0_3 (F := Ideal)) V (Proc.devRef .tc main_v24) =
    concatenate S4x2216x64 1 [⟨S4x2048x64, V (Proc.devRef .tc main_v15)⟩,
      ⟨S4x168x64, transpose S4x168x64 [1, 0, 2] (V (Proc.devRef .tc main_v22_7)) transposes_S168x4x64_S4x168x64_1_0_2⟩]
      concatenates_S4x2048x64_S4x168x64_S4x2216x64_d1 := by
  after_reads_simp
  rfl

/-- The products of the rows. -/
abbrev prods (R : FVec Ideal S4x2216x64 .f32) : FVec Ideal S4x2216x2216 .f32 :=
  Host.dotGeneral dot_S4x2216x64_S4x2216x64_S4x2216x2216_2_2_1_1_0_0 none R R

theorem p3_v25 : after (hostOps0_3 (F := Ideal)) V (Proc.devRef .tc main_v25) =
    prods (after (hostOps0_3 (F := Ideal)) V (Proc.devRef .tc main_v24)) := by
  after_reads_simp

theorem p4_v26 : after (hostOps0_4 (F := Ideal)) V (Proc.devRef .tc main_v26) =
    maximumf (F := Ideal) (φ := .f32) (V (Proc.devRef .tc main_v25)) (broadcastInDim S4x2216x2216 ![] bcast_S_S4x2216x2216 (constant (F := Ideal) S_ .f32 0x00000000#32)) := rfl

theorem p4_v24 : after (hostOps0_4 (F := Ideal)) V (Proc.devRef .tc main_v24) = V (Proc.devRef .tc main_v24) := rfl

/-- The normalized adjacency, from the products. -/
abbrev norm (X : FVec Ideal S4x2216x2216 .f32) : FVec Ideal S4x2216x2216 .f32 :=
  Host.divf (Host.tanh X) (broadcastInDim S4x2216x2216 ![0, 1, 2] bcast_S4x2216x1_S4x2216x2216_0_1_2
    (addf (broadcastInDim S4x2216x1 ![0, 1] bcast_S4x2216_S4x2216x1_0_1
      (Host.reduceAdd (Host.tanh X) (constant S_ .f32 0x00000000#32) reducesTo_S4x2216x2216_S4x2216_d2 h_S_))
      (broadcastInDim S4x2216x1 ![] bcast_S_S4x2216x1 (constant S_ .f32 0x358637BD#32))))

theorem p5_v33 : after (hostOps0_5 (F := Ideal)) V (Proc.devRef .tc main_v33) = norm (V (Proc.devRef .tc main_v26)) := by
  after_reads_simp

/-- A graph convolution. -/
abbrev conv (N : FVec Ideal S4x2216x2216 .f32) (Y : FVec Ideal S4x2216x64 .f32) (w : FVec Ideal S64x64 .f32) (u : FVec Ideal S64 .f32) : FVec Ideal S4x2216x64 .f32 :=
  addf (Host.dotGeneral dot_S4x2216x64_S64x64_S4x2216x64_2_0_01_1_n_n none
      (Host.dotGeneral dot_S4x2216x2216_S4x2216x64_S4x2216x64_2_1_1_2_0_0 none N Y) w)
    (broadcastInDim S4x2216x64 ![0, 1, 2] bcast_S1x1x64_S4x2216x64_0_1_2 (broadcastInDim S1x1x64 ![2] bcast_S64_S1x1x64_2 u))

theorem p5_v38 : after (hostOps0_5 (F := Ideal)) V (Proc.devRef .tc main_v38) =
    conv (norm (V (Proc.devRef .tc main_v26))) (V (Proc.devRef .tc main_v24)) (V (Proc.devRef .tc main_arg12)) (V (Proc.devRef .tc main_arg13)) := by
  after_reads_simp

theorem p5_v40 : after (hostOps0_5 (F := Ideal)) V (Proc.devRef .tc main_v40) =
    cmpf (F := Ideal) (φ := .f32) .ogt (after (hostOps0_5 (F := Ideal)) V (Proc.devRef .tc main_v38))
      (broadcastInDim S4x2216x64 ![] bcast_S_S4x2216x64 (constant (F := Ideal) S_ .f32 0x00000000#32)) := by
  after_reads_simp

theorem p5_v41 : after (hostOps0_5 (F := Ideal)) V (Proc.devRef .tc main_v41) =
    Host.expm1 (F := Ideal) (φ := .f32) (after (hostOps0_5 (F := Ideal)) V (Proc.devRef .tc main_v38)) := by
  after_reads_simp

theorem p6_v42 : after (hostOps0_6 (F := Ideal)) V (Proc.devRef .tc main_v42) =
    select (V (Proc.devRef .tc main_v40)) (V (Proc.devRef .tc main_v38)) (V (Proc.devRef .tc main_v41)) := rfl

theorem p7_v47 : after (hostOps0_7 (F := Ideal)) V (Proc.devRef .tc main_v47) =
    conv (V (Proc.devRef .tc main_v33)) (V (Proc.devRef .tc main_v42)) (V (Proc.devRef .tc main_arg14)) (V (Proc.devRef .tc main_arg15)) := by
  after_reads_simp

end

section
variable {a : Args} {X : FVec Ideal S4x2216x2216 .f32} {R Y : FVec Ideal S4x2216x64 .f32}

/-- The products of the rows, cut below zero. -/
theorem prod_apply (R : FVec Ideal S4x2216x64 .f32) (b : Fin 4) (n k : Fin 2216) :
    (maximumf (F := Ideal) (φ := .f32) (prods R)
      (broadcastInDim S4x2216x2216 ![] bcast_S_S4x2216x2216 (constant (F := Ideal) S_ .f32 0x00000000#32)) (ix3 b n k) : EReal) =
      max (∑ j : Fin 64, R (ix3 b n j) * R (ix3 b k j)) 0 := by
  pointwise []

/-- The normalized adjacency at an index. -/
theorem norm_apply (b : Fin 4) (n k : Fin 2216) :
    (norm X (ix3 b n k) : EReal) = Ideal.div (Ideal.tanh (X (ix3 b n k))) (∑ i : Fin 2216, Ideal.tanh (X (ix3 b n i)) + eps) := by
  unfold norm eps
  pointwise []

/-- A graph convolution at an index. -/
theorem conv_apply (N : FVec Ideal S4x2216x2216 .f32) (Y : FVec Ideal S4x2216x64 .f32) (w : FVec Ideal S64x64 .f32) (u : FVec Ideal S64 .f32)
    (b : Fin 4) (n : Fin 2216) (k : Fin 64) :
    (conv N Y w u (ix3 b n k) : EReal) = ∑ j : Fin 64, (∑ i : Fin 2216, N (ix3 b n i) * Y (ix3 b i j)) * w (ix2 j k) + u (ix1 k) := by
  unfold conv
  pointwise []

/-- The activation at an index. -/
theorem act_apply (Y : FVec Ideal S4x2216x64 .f32) (b : Fin 4) (n : Fin 2216) (k : Fin 64) :
    (select (cmpf (F := Ideal) (φ := .f32) .ogt Y (broadcastInDim S4x2216x64 ![] bcast_S_S4x2216x64 (constant (F := Ideal) S_ .f32 0x00000000#32))) Y
      (Host.expm1 (F := Ideal) (φ := .f32) Y) (ix3 b n k) : EReal) = elu (Y (ix3 b n k)) := by
  unfold elu
  pointwise []

end

variable (m : (ℓ : Loc nD τ sig) → Buf (Elt Ideal) ℓ) (c : Dev nD)

/-- The contents after the loop. -/
def left : Valuation τ sig (Elt Ideal) := after condOps (atK m 168 c)

theorem left_eq {r : Ref sig .tc} (h : r ∉ condOps_W) : left m c (Proc.devRef .tc r) = atK m 168 c (Proc.devRef .tc r) :=
  after_of_writes_sub _ _ condOps_writes h

theorem left_v15 (b : Fin 4) (n : Fin 2048) (j : Fin 64) : (left m c (Proc.devRef .tc main_v15) (ix3 b n j) : EReal) = sp (argsR m c) b n j := by
  rw [left_eq m c (by decide), trip_of_not_mem m c (by decide)]
  exact ent_v15 m c b n j

theorem left_rows (t : Fin 168) (b : Fin 4) (j : Fin 64) :
    (left m c (Proc.devRef .tc main_v22_7) (ix3 t b j) : EReal) = hid (argsR m c) b (t.val + 1) j := by
  rw [left_eq m c (by decide)]
  exact loop_out m c t b j

theorem left_arg {r : Ref sig .tc} (h : r ∉ condOps_W) (h0 : r ∉ preW) (h1 : r ∉ tripW) :
    left m c (Proc.devRef .tc r) = m (c, Proc.devRef .tc r) := by
  rw [left_eq m c h, trip_of_not_mem m c h1, entry_of_not_mem m c h0]

/-- The rows of the graph. -/
theorem v24_apply (b : Fin 4) (n : Fin 2216) (j : Fin 64) :
    (after (hostOps0_3 (F := Ideal)) (left m c) (Proc.devRef .tc main_v24) (ix3 b n j) : EReal) = row (argsR m c) b n j := by
  rw [p3_v24]
  refine (rows_apply _ _ b n j).trans ?_
  unfold row
  by_cases h : n.val < 2048
  · rw [dif_pos h, dif_pos h]
    exact left_v15 m c b _ j
  · rw [dif_neg h, dif_neg h]
    exact left_rows m c _ b j

/-- The adjacency of the rows. -/
theorem tanh_prods (R : FVec Ideal S4x2216x64 .f32) (a : Args) (hR : ∀ b n j, R (ix3 b n j) = row a b n j) (b : Fin 4) (n k : Fin 2216) :
    Ideal.tanh (maximumf (F := Ideal) (φ := .f32) (prods R)
      (broadcastInDim S4x2216x2216 ![] bcast_S_S4x2216x2216 (constant (F := Ideal) S_ .f32 0x00000000#32)) (ix3 b n k)) = adj a b n k := by
  unfold adj
  exact congrArg Ideal.tanh ((prod_apply R b n k).trans (by simp only [hR]))

/-- The normalized adjacency of the rows. -/
theorem norm_rows (X : FVec Ideal S4x2216x2216 .f32) (a : Args) (hX : ∀ b n k, Ideal.tanh (X (ix3 b n k)) = adj a b n k) (b : Fin 4) (n k : Fin 2216) :
    (norm X (ix3 b n k) : EReal) = Ideal.div (adj a b n k) (deg a b n) := by
  rw [norm_apply]
  simp only [hX]
  rfl

/-- The two convolutions of the rows. -/
theorem convs (X : FVec Ideal S4x2216x2216 .f32) (R Y Z : FVec Ideal S4x2216x64 .f32) (w w' : FVec Ideal S64x64 .f32) (u u' : FVec Ideal S64 .f32) (a : Args)
    (hX : ∀ b n k, Ideal.tanh (X (ix3 b n k)) = adj a b n k) (hR : ∀ b n j, R (ix3 b n j) = row a b n j)
    (hw : ∀ j k, w (ix2 j k) = a.g1 j k) (hu : ∀ k, u (ix1 k) = a.gb1 k) (hw' : ∀ j k, w' (ix2 j k) = a.g2 j k) (hu' : ∀ k, u' (ix1 k) = a.gb2 k)
    (hY : Y = conv (norm X) R w u)
    (hZ : Z = select (cmpf (F := Ideal) (φ := .f32) .ogt Y (broadcastInDim S4x2216x64 ![] bcast_S_S4x2216x64 (constant (F := Ideal) S_ .f32 0x00000000#32))) Y
      (Host.expm1 (F := Ideal) (φ := .f32) Y)) (b : Fin 4) (n : Fin 2216) (k : Fin 64) :
    (conv (norm X) Z w' u' (ix3 b n k) : EReal) = out a b n k := by
  have h1 : ∀ b n k, (Z (ix3 b n k) : EReal) = out1 a b n k := fun b n k => by
    rw [hZ, act_apply, hY, conv_apply]
    simp only [norm_rows X a hX, hR, hw, hu]
    rfl
  rw [conv_apply]
  simp only [norm_rows X a hX, h1, hw', hu']
  rfl

/-- The reference's result. -/
theorem final_out (b : Fin 4) (n : Fin 2216) (k : Fin 64) :
    (finalContents condOps preI bodyI postI 168 m c (Proc.devRef .tc main_v47) (ix3 b n k) : EReal) = out (argsR m c) b n k := by
  show (afterL postI (left m c) (Proc.devRef .tc main_v47) (ix3 b n k) : EReal) = _
  simp only [postI, afterL_cons, afterL_nil]
  generalize hV : after (hostOps0_3 (F := Ideal)) (left m c) = V
  have hR : ∀ b n j, (V (Proc.devRef .tc main_v24) (ix3 b n j) : EReal) = row (argsR m c) b n j := by rw [← hV]; exact v24_apply m c
  have h25 : V (Proc.devRef .tc main_v25) = prods (V (Proc.devRef .tc main_v24)) := by rw [← hV]; exact p3_v25 _
  have arg : ∀ {r : Ref sig .tc}, r ∉ ([main_v23, main_v24, main_v25] : List (Ref sig .tc)) → r ∉ condOps_W → r ∉ preW → r ∉ tripW →
      V (Proc.devRef .tc r) = m (c, Proc.devRef .tc r) := fun h h' h0 h1 => by
    rw [← hV, after_of_writes_sub _ _ post3_writes h, left_arg m c h' h0 h1]
  have a12 := arg (r := main_arg12) (by decide) (by decide) (by decide) (by decide)
  have a13 := arg (r := main_arg13) (by decide) (by decide) (by decide) (by decide)
  have a14 := arg (r := main_arg14) (by decide) (by decide) (by decide) (by decide)
  have a15 := arg (r := main_arg15) (by decide) (by decide) (by decide) (by decide)
  clear arg hV
  generalize hV4 : after (hostOps0_4 (F := Ideal)) V = V4
  have b24 : V4 (Proc.devRef .tc main_v24) = V (Proc.devRef .tc main_v24) := by rw [← hV4]; exact after_of_writes_sub _ _ post4_writes (by decide)
  have b12 : V4 (Proc.devRef .tc main_arg12) = m (c, Proc.devRef .tc main_arg12) := by
    rw [← hV4]; exact (after_of_writes_sub _ _ post4_writes (by decide)).trans a12
  have b13 : V4 (Proc.devRef .tc main_arg13) = m (c, Proc.devRef .tc main_arg13) := by
    rw [← hV4]; exact (after_of_writes_sub _ _ post4_writes (by decide)).trans a13
  have b14 : V4 (Proc.devRef .tc main_arg14) = m (c, Proc.devRef .tc main_arg14) := by
    rw [← hV4]; exact (after_of_writes_sub _ _ post4_writes (by decide)).trans a14
  have b15 : V4 (Proc.devRef .tc main_arg15) = m (c, Proc.devRef .tc main_arg15) := by
    rw [← hV4]; exact (after_of_writes_sub _ _ post4_writes (by decide)).trans a15
  have hX : ∀ b n k, Ideal.tanh (V4 (Proc.devRef .tc main_v26) (ix3 b n k)) = adj (argsR m c) b n k := fun b n k => by
    rw [← hV4, p4_v26, h25]
    exact tanh_prods _ _ hR b n k
  clear a12 a13 a14 a15 hV4
  have e38 := p5_v38 V4
  rw [b24, b12, b13] at e38
  have e33 := p5_v33 V4
  have e40 := p5_v40 V4
  have e41 := p5_v41 V4
  generalize hV5 : after (hostOps0_5 (F := Ideal)) V4 = V5 at *
  have c14 : V5 (Proc.devRef .tc main_arg14) = m (c, Proc.devRef .tc main_arg14) := by
    rw [← hV5]; exact (after_of_writes_sub _ _ post5_writes (by decide)).trans b14
  have c15 : V5 (Proc.devRef .tc main_arg15) = m (c, Proc.devRef .tc main_arg15) := by
    rw [← hV5]; exact (after_of_writes_sub _ _ post5_writes (by decide)).trans b15
  clear hV5
  rw [p7_v47, p6_v42, after_of_writes_sub _ _ post6_writes (r := main_v33) (by decide),
    after_of_writes_sub _ _ post6_writes (r := main_arg14) (by decide), after_of_writes_sub _ _ post6_writes (r := main_arg15) (by decide),
    e33, e40, e41, c14, c15]
  exact convs _ _ _ _ _ _ _ _ _ hX hR (fun _ _ => rfl) (fun _ => rfl) (fun _ _ => rfl) (fun _ => rfl) e38 rfl b n k

/-- What the reference leaves. -/
theorem run_out (ρ) : θ_run defs (onTc (τ := τ) (main (F := Ideal))) ⟨m, fun _ => 0, ρ⟩ fun r => ∀ c : Dev nD,
    ∀ b n k, (r.2.mem ((c : Thread nD τ).loc main_v47) (ix3 b n k) : EReal) = out (argsR m c) b n k := by
  refine (θ_run defs _ _).mono (fun r h c b n k => ?_) (run_fold m ρ)
  rw [h c main_v47 rfl]
  exact final_out m c b n k

end Cert.ReferenceIdeal.Hand
-- ==== Proof.K.Alg.lean ====
module

public import proofs.«01_k».proof.Proof.K.KOut
public import proofs.«01_k».proof.Proof.K.Body
public import proofs.«01_k».proof.Proof.K.RPost

/-! The kernel and the reference, run from memories whose arguments agree, leave the same result over the extended reals. -/

@[expose] public section

set_option maxRecDepth 16384

noncomputable section

namespace Cert.Proof

open Cert.Net
open Idealize.ShloMosaic Idealize.ShloMosaic.TcCoe Idealize.SL.Sem

/-- The reference's result is the kernel's. -/
theorem algebraic : Cert.algebraic_KernelIdeal_ReferenceIdeal := by
  intro m g m' g' _ hargs
  have ha : ∀ c, Cert.ReferenceIdeal.Hand.argsR m' c = Cert.KernelIdeal.Hand.argsK m c := fun c => by
    obtain ⟨h0, h1, h2, h3, h4, h5, h6, h7, h8, h9, h10, h11, h12, h13, h14, h15⟩ := hargs c
    unfold Cert.ReferenceIdeal.Hand.argsR Cert.KernelIdeal.Hand.argsK
    rw [← h0, ← h1, ← h2, ← h3, ← h4, ← h5, ← h6, ← h7, ← h8, ← h9, ← h10, ← h11, ← h12, ← h13, ← h14, ← h15]
  refine ⟨fun c => Cert.KernelIdeal.Hand.result (Cert.KernelIdeal.Hand.argsK m c), ?_, ?_⟩
  · exact (θ_run _ _ _).mono (fun r h c => ⟨h.1 c, h.2.1 c⟩)
      (θ_run_and (Cert.KernelIdeal.Hand.run_out m g) (Cert.KernelIdeal.Hand.frame (F := Ideal) m g))
  · refine (θ_run _ _ _).mono (fun r h c => ⟨?_, h.2.1 c⟩)
      (θ_run_and (Cert.ReferenceIdeal.Hand.run_out m' g') (Cert.ReferenceIdeal.Hand.frame m' g' trivial))
    funext i
    have hi : i = ix3 (i 0) (i 1) (i 2) := by
      funext x
      match x with
      | 0 => rfl
      | 1 => rfl
      | 2 => rfl
    rw [hi]
    refine (h.1 c (i 0) (i 1) (i 2)).trans ?_
    rw [ha]
    rfl

end Cert.Proof
-- ==== Proof.lean ====
module

public import proofs.«01_k».proof.Defs
public import proofs.«01_k».proof.Proof.K.RefRun
public import proofs.«01_k».proof.Proof.K.Bits
public import proofs.«01_k».proof.Proof.K.Alg

/-! The claims: the frames of the kernel, over the bit patterns and over the extended reals, and of the reference; that
    the idealization rewrote nothing; and that the kernel and the reference leave the same result over the extended reals. -/

@[expose] public section

noncomputable section

namespace Cert.Proof

/-- Every claim of the certificate. -/
theorem claim : Cert.Claim := ⟨Cert.Kernel.Gen.facts, Cert.KernelIdeal.Gen.facts, Cert.ReferenceIdeal.Gen.facts,
  Cert.Kernel.Hand.frame, fun m ρ _ => Cert.KernelIdeal.Hand.frame m ρ, Cert.ReferenceIdeal.Hand.frame, trivial, algebraic⟩

end Cert.Proof
